-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "slope_log2e" .f32 0x3E93BB63#32 (((13421773 / 67108864) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v333) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x128x512 : Shape := ⟨3, ![16, 128, 512]⟩
abbrev S16x2x512x512 : Shape := ⟨4, ![16, 2, 512, 512]⟩
abbrev S2x1x256 : Shape := ⟨3, ![2, 1, 256]⟩
abbrev S2x1x2x128x128 : Shape := ⟨5, ![2, 1, 2, 128, 128]⟩
abbrev S128x1 : Shape := ⟨2, ![128, 1]⟩
abbrev S2x1x512 : Shape := ⟨3, ![2, 1, 512]⟩
abbrev S2x1x2x256x128 : Shape := ⟨5, ![2, 1, 2, 256, 128]⟩
abbrev S_ : Shape := ⟨0, ![]⟩
abbrev S16x2x512 : Shape := ⟨3, ![16, 2, 512]⟩

class Facts : Prop where
  bcast_S_S16x2x512x512 : S_.BroadcastsInDim S16x2x512x512 (![] : Fin 0 → Fin S16x2x512x512.rank)
  reducesTo_S16x2x512x512_S16x2x512_d3 : S16x2x512x512.ReducesTo [3] S16x2x512
  h_S_ : 0 < S_.numel
  reducesTo_S16x2x512_S_d0_1_2 : S16x2x512.ReducesTo [0, 1, 2] S_
  bcast_S_S16x128x512 : S_.BroadcastsInDim S16x128x512 (![] : Fin 0 → Fin S16x128x512.rank)
  reducesTo_S16x128x512_S_d0_1_2 : S16x128x512.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S2x1x2x128x128 : S_.BroadcastsInDim S2x1x2x128x128 (![] : Fin 0 → Fin S2x1x2x128x128.rank)
  reducesTo_S2x1x2x128x128_S_d0_1_2_3_4 : S2x1x2x128x128.ReducesTo [0, 1, 2, 3, 4] S_
  bcast_S_S128x1 : S_.BroadcastsInDim S128x1 (![] : Fin 0 → Fin S128x1.rank)
  reducesTo_S128x1_S_d0_1 : S128x1.ReducesTo [0, 1] S_
  bcast_S_S2x1x512 : S_.BroadcastsInDim S2x1x512 (![] : Fin 0 → Fin S2x1x512.rank)
  reducesTo_S2x1x512_S_d0_1_2 : S2x1x512.ReducesTo [0, 1, 2] S_
  bcast_S_S2x1x2x256x128 : S_.BroadcastsInDim S2x1x2x256x128 (![] : Fin 0 → Fin S2x1x2x256x128.rank)
  reducesTo_S2x1x2x256x128_S_d0_1_2_3_4 : S2x1x2x256x128.ReducesTo [0, 1, 2, 3, 4] S_

variable [Facts]

def fn_part4 {F : FTy → Type} [FloatOps F] (main_arg11 : FVec F S2x1x512 .f32) (main_arg14 : FVec F S2x1x256 .f32) (main_v64 : IVec S_ 1) (main_v67 : IVec S128x1 1) : IVec S_ 1 :=
  let main_c_26 : IVec S_ 1 := constantI S_ 1 1#1
  let main_v68 : IVec S_ 1 := (fun x v => Host.reduce IntOp.andi x v reducesTo_S128x1_S_d0_1 h_S_) main_v67 main_c_26
  let main_v69 : IVec S_ 1 := andi main_v64 main_v68
  let main_v70 : FVec F S2x1x512 .f32 := Host.absf main_arg11
  let main_cst_27 : FVec F S_ .f32 := constant S_ .f32 0x7F800000#32
  let main_v71 : FVec F S2x1x512 .f32 := broadcastInDim S2x1x512 ![] bcast_S_S2x1x512 main_cst_27
  let main_v72 : IVec S2x1x512 1 := cmpf .olt main_v70 main_v71
  let main_c_28 : IVec S_ 1 := constantI S_ 1 1#1
  let main_v73 : IVec S_ 1 := (fun x v => Host.reduce IntOp.andi x v reducesTo_S2x1x512_S_d0_1_2 h_S_) main_v72 main_c_28
  let main_v74 : IVec S_ 1 := andi main_v69 main_v73
  let main_v75 : FVec F S2x1x256 .f32 := Host.absf main_arg14
  let main_cst_29 : FVec F S_ .f32 := constant S_ .f32 0x7F800000#32
  let main_v76 : FVec F S2x1x256 .f32 := broadcastInDim S2x1x256 ![] bcast_S_S2x1x256 main_cst_29
  let main_v77 : IVec S2x1x256 1 := cmpf .olt main_v75 main_v76
  let main_c_30 : IVec S_ 1 := constantI S_ 1 1#1
  let main_v78 : IVec S_ 1 := (fun x v => Host.reduce IntOp.andi x v reducesTo_S2x1x256_S_d0_1_2 h_S_) main_v77 main_c_30
  let main_v79 : IVec S_ 1 := andi main_v74 main_v78
  main_v79

def fn_part3 {F : FTy → Type} [FloatOps F] (main_arg11 : FVec F S2x1x512 .f32) (main_arg14 : FVec F S2x1x256 .f32) (main_arg17 : FVec F S2x1x512 .f32) (main_arg18 : FVec F S2x1x2x256x128 .f32) (main_arg19 : FVec F S128x1 .f32) (main_v49 : IVec S_ 1) (main_v50 : FVec F S128x1 .f32) : IVec S_ 1 :=
  let main_cst_19 : FVec F S_ .f32 := constant S_ .f32 0x7F800000#32
  let main_v51 : FVec F S128x1 .f32 := broadcastInDim S128x1 ![] bcast_S_S128x1 main_cst_19
  let main_v52 : IVec S128x1 1 := cmpf .olt main_v50 main_v51
  let main_c_20 : IVec S_ 1 := constantI S_ 1 1#1
  let main_v53 : IVec S_ 1 := (fun x v => Host.reduce IntOp.andi x v reducesTo_S128x1_S_d0_1 h_S_) main_v52 main_c_20
  let main_v54 : IVec S_ 1 := andi main_v49 main_v53
  let main_v55 : FVec F S2x1x512 .f32 := Host.absf main_arg17
  let main_cst_21 : FVec F S_ .f32 := constant S_ .f32 0x7F800000#32
  let main_v56 : FVec F S2x1x512 .f32 := broadcastInDim S2x1x512 ![] bcast_S_S2x1x512 main_cst_21
  let main_v57 : IVec S2x1x512 1 := cmpf .olt main_v55 main_v56
  let main_c_22 : IVec S_ 1 := constantI S_ 1 1#1
  let main_v58 : IVec S_ 1 := (fun x v => Host.reduce IntOp.andi x v reducesTo_S2x1x512_S_d0_1_2 h_S_) main_v57 main_c_22
  let main_v59 : IVec S_ 1 := andi main_v54 main_v58
  let main_v60 : FVec F S2x1x2x256x128 .f32 := Host.absf main_arg18
  let main_cst_23 : FVec F S_ .f32 := constant S_ .f32 0x7F800000#32
  let main_v61 : FVec F S2x1x2x256x128 .f32 := broadcastInDim S2x1x2x256x128 ![] bcast_S_S2x1x2x256x128 main_cst_23
  let main_v62 : IVec S2x1x2x256x128 1 := cmpf .olt main_v60 main_v61
  let main_c_24 : IVec S_ 1 := constantI S_ 1 1#1
  let main_v63 : IVec S_ 1 := (fun x v => Host.reduce IntOp.andi x v reducesTo_S2x1x2x256x128_S_d0_1_2_3_4 h_S_) main_v62 main_c_24
  let main_v64 : IVec S_ 1 := andi main_v59 main_v63
  let main_v65 : FVec F S128x1 .f32 := Host.absf main_arg19
  let main_cst_25 : FVec F S_ .f32 := constant S_ .f32 0x7F800000#32
  let main_v66 : FVec F S128x1 .f32 := broadcastInDim S128x1 ![] bcast_S_S128x1 main_cst_25
  let main_v67 : IVec S128x1 1 := cmpf .olt main_v65 main_v66
  fn_part4 (F := F) main_arg11 main_arg14 main_v64 main_v67

def fn_part2 {F : FTy → Type} [FloatOps F] (main_arg7 : FVec F S128x1 .f32) (main_arg8 : FVec F S2x1x512 .f32) (main_arg9 : FVec F S2x1x2x256x128 .f32) (main_arg10 : FVec F S128x1 .f32) (main_arg11 : FVec F S2x1x512 .f32) (main_arg14 : FVec F S2x1x256 .f32) (main_arg17 : FVec F S2x1x512 .f32) (main_arg18 : FVec F S2x1x2x256x128 .f32) (main_arg19 : FVec F S128x1 .f32) (main_v29 : IVec S_ 1) (main_v32 : IVec S2x1x2x256x128 1) (main_c_12 : IVec S_ 1) : IVec S_ 1 :=
  let main_v33 : IVec S_ 1 := (fun x v => Host.reduce IntOp.andi x v reducesTo_S2x1x2x256x128_S_d0_1_2_3_4 h_S_) main_v32 main_c_12
  let main_v34 : IVec S_ 1 := andi main_v29 main_v33
  let main_v35 : FVec F S128x1 .f32 := Host.absf main_arg7
  let main_cst_13 : FVec F S_ .f32 := constant S_ .f32 0x7F800000#32
  let main_v36 : FVec F S128x1 .f32 := broadcastInDim S128x1 ![] bcast_S_S128x1 main_cst_13
  let main_v37 : IVec S128x1 1 := cmpf .olt main_v35 main_v36
  let main_c_14 : IVec S_ 1 := constantI S_ 1 1#1
  let main_v38 : IVec S_ 1 := (fun x v => Host.reduce IntOp.andi x v reducesTo_S128x1_S_d0_1 h_S_) main_v37 main_c_14
  let main_v39 : IVec S_ 1 := andi main_v34 main_v38
  let main_v40 : FVec F S2x1x512 .f32 := Host.absf main_arg8
  let main_cst_15 : FVec F S_ .f32 := constant S_ .f32 0x7F800000#32
  let main_v41 : FVec F S2x1x512 .f32 := broadcastInDim S2x1x512 ![] bcast_S_S2x1x512 main_cst_15
  let main_v42 : IVec S2x1x512 1 := cmpf .olt main_v40 main_v41
  let main_c_16 : IVec S_ 1 := constantI S_ 1 1#1
  let main_v43 : IVec S_ 1 := (fun x v => Host.reduce IntOp.andi x v reducesTo_S2x1x512_S_d0_1_2 h_S_) main_v42 main_c_16
  let main_v44 : IVec S_ 1 := andi main_v39 main_v43
  let main_v45 : FVec F S2x1x2x256x128 .f32 := Host.absf main_arg9
  let main_cst_17 : FVec F S_ .f32 := constant S_ .f32 0x7F800000#32
  let main_v46 : FVec F S2x1x2x256x128 .f32 := broadcastInDim S2x1x2x256x128 ![] bcast_S_S2x1x2x256x128 main_cst_17
  let main_v47 : IVec S2x1x2x256x128 1 := cmpf .olt main_v45 main_v46
  let main_c_18 : IVec S_ 1 := constantI S_ 1 1#1
  let main_v48 : IVec S_ 1 := (fun x v => Host.reduce IntOp.andi x v reducesTo_S2x1x2x256x128_S_d0_1_2_3_4 h_S_) main_v47 main_c_18
  let main_v49 : IVec S_ 1 := andi main_v44 main_v48
  let main_v50 : FVec F S128x1 .f32 := Host.absf main_arg10
  fn_part3 (F := F) main_arg11 main_arg14 main_arg17 main_arg18 main_arg19 main_v49 main_v50

def fn_part1 {F : FTy → Type} [FloatOps F] (main_arg4 : FVec F S128x1 .f32) (main_arg5 : FVec F S2x1x512 .f32) (main_arg6 : FVec F S2x1x2x256x128 .f32) (main_arg7 : FVec F S128x1 .f32) (main_arg8 : FVec F S2x1x512 .f32) (main_arg9 : FVec F S2x1x2x256x128 .f32) (main_arg10 : FVec F S128x1 .f32) (main_arg11 : FVec F S2x1x512 .f32) (main_arg14 : FVec F S2x1x256 .f32) (main_arg17 : FVec F S2x1x512 .f32) (main_arg18 : FVec F S2x1x2x256x128 .f32) (main_arg19 : FVec F S128x1 .f32) (main_v14 : IVec S_ 1) (main_v15 : FVec F S2x1x2x128x128 .f32) (main_cst_5 : FVec F S_ .f32) : IVec S_ 1 :=
  let main_v16 : FVec F S2x1x2x128x128 .f32 := broadcastInDim S2x1x2x128x128 ![] bcast_S_S2x1x2x128x128 main_cst_5
  let main_v17 : IVec S2x1x2x128x128 1 := cmpf .olt main_v15 main_v16
  let main_c_6 : IVec S_ 1 := constantI S_ 1 1#1
  let main_v18 : IVec S_ 1 := (fun x v => Host.reduce IntOp.andi x v reducesTo_S2x1x2x128x128_S_d0_1_2_3_4 h_S_) main_v17 main_c_6
  let main_v19 : IVec S_ 1 := andi main_v14 main_v18
  let main_v20 : FVec F S128x1 .f32 := Host.absf main_arg4
  let main_cst_7 : FVec F S_ .f32 := constant S_ .f32 0x7F800000#32
  let main_v21 : FVec F S128x1 .f32 := broadcastInDim S128x1 ![] bcast_S_S128x1 main_cst_7
  let main_v22 : IVec S128x1 1 := cmpf .olt main_v20 main_v21
  let main_c_8 : IVec S_ 1 := constantI S_ 1 1#1
  let main_v23 : IVec S_ 1 := (fun x v => Host.reduce IntOp.andi x v reducesTo_S128x1_S_d0_1 h_S_) main_v22 main_c_8
  let main_v24 : IVec S_ 1 := andi main_v19 main_v23
  let main_v25 : FVec F S2x1x512 .f32 := Host.absf main_arg5
  let main_cst_9 : FVec F S_ .f32 := constant S_ .f32 0x7F800000#32
  let main_v26 : FVec F S2x1x512 .f32 := broadcastInDim S2x1x512 ![] bcast_S_S2x1x512 main_cst_9
  let main_v27 : IVec S2x1x512 1 := cmpf .olt main_v25 main_v26
  let main_c_10 : IVec S_ 1 := constantI S_ 1 1#1
  let main_v28 : IVec S_ 1 := (fun x v => Host.reduce IntOp.andi x v reducesTo_S2x1x512_S_d0_1_2 h_S_) main_v27 main_c_10
  let main_v29 : IVec S_ 1 := andi main_v24 main_v28
  let main_v30 : FVec F S2x1x2x256x128 .f32 := Host.absf main_arg6
  let main_cst_11 : FVec F S_ .f32 := constant S_ .f32 0x7F800000#32
  let main_v31 : FVec F S2x1x2x256x128 .f32 := broadcastInDim S2x1x2x256x128 ![] bcast_S_S2x1x2x256x128 main_cst_11
  let main_v32 : IVec S2x1x2x256x128 1 := cmpf .olt main_v30 main_v31
  let main_c_12 : IVec S_ 1 := constantI S_ 1 1#1
  fn_part2 (F := F) main_arg7 main_arg8 main_arg9 main_arg10 main_arg11 main_arg14 main_arg17 main_arg18 main_arg19 main_v29 main_v32 main_c_12

def fn {F : FTy → Type} [FloatOps F] (main_arg0 : FVec F S16x128x512 .f32) (main_arg1 : FVec F S16x2x512x512 .f32) (main_arg2 : FVec F S2x1x256 .f32) (main_arg3 : FVec F S2x1x2x128x128 .f32) (main_arg4 : FVec F S128x1 .f32) (main_arg5 : FVec F S2x1x512 .f32) (main_arg6 : FVec F S2x1x2x256x128 .f32) (main_arg7 : FVec F S128x1 .f32) (main_arg8 : FVec F S2x1x512 .f32) (main_arg9 : FVec F S2x1x2x256x128 .f32) (main_arg10 : FVec F S128x1 .f32) (main_arg11 : FVec F S2x1x512 .f32) (main_arg12 : FVec F S2x1x2x256x128 .f32) (main_arg13 : FVec F S128x1 .f32) (main_arg14 : FVec F S2x1x256 .f32) (main_arg15 : FVec F S2x1x2x128x128 .f32) (main_arg16 : FVec F S128x1 .f32) (main_arg17 : FVec F S2x1x512 .f32) (main_arg18 : FVec F S2x1x2x256x128 .f32) (main_arg19 : FVec F S128x1 .f32) : IVec S_ 1 :=
  let main_v0 : FVec F S16x2x512x512 .f32 := Host.absf main_arg1
  let main_cst : FVec F S_ .f32 := constant S_ .f32 0x3089705F#32
  let main_v1 : FVec F S16x2x512x512 .f32 := broadcastInDim S16x2x512x512 ![] bcast_S_S16x2x512x512 main_cst
  let main_v2 : IVec S16x2x512x512 1 := cmpf .ogt main_v0 main_v1
  let main_c : IVec S_ 1 := constantI S_ 1 0#1
  let main_v3 : IVec S16x2x512 1 := (fun x v => Host.reduce IntOp.ori x v reducesTo_S16x2x512x512_S16x2x512_d3 h_S_) main_v2 main_c
  let main_c_0 : IVec S_ 1 := constantI S_ 1 1#1
  let main_v4 : IVec S_ 1 := (fun x v => Host.reduce IntOp.andi x v reducesTo_S16x2x512_S_d0_1_2 h_S_) main_v3 main_c_0
  let main_v5 : FVec F S16x128x512 .f32 := Host.absf main_arg0
  let main_cst_1 : FVec F S_ .f32 := constant S_ .f32 0x7F800000#32
  let main_v6 : FVec F S16x128x512 .f32 := broadcastInDim S16x128x512 ![] bcast_S_S16x128x512 main_cst_1
  let main_v7 : IVec S16x128x512 1 := cmpf .olt main_v5 main_v6
  let main_c_2 : IVec S_ 1 := constantI S_ 1 1#1
  let main_v8 : IVec S_ 1 := (fun x v => Host.reduce IntOp.andi x v reducesTo_S16x128x512_S_d0_1_2 h_S_) main_v7 main_c_2
  let main_v9 : IVec S_ 1 := andi main_v4 main_v8
  let main_v10 : FVec F S2x1x256 .f32 := Host.absf main_arg2
  let main_cst_3 : FVec F S_ .f32 := constant S_ .f32 0x7F800000#32
  let main_v11 : FVec F S2x1x256 .f32 := broadcastInDim S2x1x256 ![] bcast_S_S2x1x256 main_cst_3
  let main_v12 : IVec S2x1x256 1 := cmpf .olt main_v10 main_v11
  let main_c_4 : IVec S_ 1 := constantI S_ 1 1#1
  let main_v13 : IVec S_ 1 := (fun x v => Host.reduce IntOp.andi x v reducesTo_S2x1x256_S_d0_1_2 h_S_) main_v12 main_c_4
  let main_v14 : IVec S_ 1 := andi main_v9 main_v13
  let main_v15 : FVec F S2x1x2x128x128 .f32 := Host.absf main_arg3
  let main_cst_5 : FVec F S_ .f32 := constant S_ .f32 0x7F800000#32
  fn_part1 (F := F) main_arg4 main_arg5 main_arg6 main_arg7 main_arg8 main_arg9 main_arg10 main_arg11 main_arg14 main_arg17 main_arg18 main_arg19 main_v14 main_v15 main_cst_5
-- ==== Kernel.lean ====
abbrev S16x128x512 : Shape := ⟨3, ![16, 128, 512]⟩
abbrev S16x2x512x512 : Shape := ⟨4, ![16, 2, 512, 512]⟩
abbrev S2x1x256 : Shape := ⟨3, ![2, 1, 256]⟩
abbrev S2x1x2x128x128 : Shape := ⟨5, ![2, 1, 2, 128, 128]⟩
abbrev S128x1 : Shape := ⟨2, ![128, 1]⟩
abbrev S2x1x512 : Shape := ⟨3, ![2, 1, 512]⟩
abbrev S2x1x2x256x128 : Shape := ⟨5, ![2, 1, 2, 256, 128]⟩
abbrev S2x1x128 : Shape := ⟨3, ![2, 1, 128]⟩
abbrev S2x128 : Shape := ⟨2, ![2, 128]⟩
abbrev S4x128 : Shape := ⟨2, ![4, 128]⟩
abbrev S128x4 : Shape := ⟨2, ![128, 4]⟩
abbrev S2x1x1x128x128 : Shape := ⟨5, ![2, 1, 1, 128, 128]⟩
abbrev S2x128x128 : Shape := ⟨3, ![2, 128, 128]⟩
abbrev S1x128x128 : Shape := ⟨3, ![1, 128, 128]⟩
abbrev S128x128 : Shape := ⟨2, ![128, 128]⟩
abbrev S128x256 : Shape := ⟨2, ![128, 256]⟩
abbrev S1x128 : Shape := ⟨2, ![1, 128]⟩
abbrev S1x256 : Shape := ⟨2, ![1, 256]⟩
abbrev S2x256 : Shape := ⟨2, ![2, 256]⟩
abbrev S4x256 : Shape := ⟨2, ![4, 256]⟩
abbrev S256x4 : Shape := ⟨2, ![256, 4]⟩
abbrev S2x1x1x256x128 : Shape := ⟨5, ![2, 1, 1, 256, 128]⟩
abbrev S2x256x128 : Shape := ⟨3, ![2, 256, 128]⟩
abbrev S1x256x128 : Shape := ⟨3, ![1, 256, 128]⟩
abbrev S256x128 : Shape := ⟨2, ![256, 128]⟩
abbrev S256x256 : Shape := ⟨2, ![256, 256]⟩
abbrev S16x256x512 : Shape := ⟨3, ![16, 256, 512]⟩
abbrev S2x128x512 : Shape := ⟨3, ![2, 128, 512]⟩
abbrev S2x2x512x512 : Shape := ⟨4, ![2, 2, 512, 512]⟩
abbrev S2x256x512 : Shape := ⟨3, ![2, 256, 512]⟩
abbrev S1x128x512 : Shape := ⟨3, ![1, 128, 512]⟩
abbrev S128x512 : Shape := ⟨2, ![128, 512]⟩
abbrev S512x128 : Shape := ⟨2, ![512, 128]⟩
abbrev S1x1x512x512 : Shape := ⟨4, ![1, 1, 512, 512]⟩
abbrev S512x512 : Shape := ⟨2, ![512, 512]⟩
abbrev S512x4 : Shape := ⟨2, ![512, 4]⟩
abbrev S512x1 : Shape := ⟨2, ![512, 1]⟩
abbrev S512x129 : Shape := ⟨2, ![512, 129]⟩
abbrev S1x512 : Shape := ⟨2, ![1, 512]⟩
abbrev S1x512x1 : Shape := ⟨3, ![1, 512, 1]⟩
abbrev S1 : Shape := ⟨1, ![1]⟩
abbrev S1x1x1 : Shape := ⟨3, ![1, 1, 1]⟩
abbrev S512x256 : Shape := ⟨2, ![512, 256]⟩
abbrev S512x257 : Shape := ⟨2, ![512, 257]⟩
abbrev S256x512 : Shape := ⟨2, ![256, 512]⟩
abbrev S1x256x512 : Shape := ⟨3, ![1, 256, 512]⟩

abbrev nBuf : Space → Nat
  | .hbm => 147
  | .vmem => 30
  | .smem => 0
  | _ => 0

abbrev hbmTy0_0 (i : Nat) : BufTy := match i % 128 with
  | 0 => ⟨S16x128x512, .f32⟩
  | 1 => ⟨S16x2x512x512, .f32⟩
  | 2 => ⟨S2x1x256, .f32⟩
  | 3 => ⟨S2x1x2x128x128, .f32⟩
  | 4 => ⟨S128x1, .f32⟩
  | 5 => ⟨S2x1x512, .f32⟩
  | 6 => ⟨S2x1x2x256x128, .f32⟩
  | 7 => ⟨S128x1, .f32⟩
  | 8 => ⟨S2x1x512, .f32⟩
  | 9 => ⟨S2x1x2x256x128, .f32⟩
  | 10 => ⟨S128x1, .f32⟩
  | 11 => ⟨S2x1x512, .f32⟩
  | 12 => ⟨S2x1x2x256x128, .f32⟩
  | 13 => ⟨S128x1, .f32⟩
  | 14 => ⟨S2x1x256, .f32⟩
  | 15 => ⟨S2x1x2x128x128, .f32⟩
  | 16 => ⟨S128x1, .f32⟩
  | 17 => ⟨S2x1x512, .f32⟩
  | 18 => ⟨S2x1x2x256x128, .f32⟩
  | 19 => ⟨S128x1, .f32⟩
  | 20 => ⟨S2x1x128, .f32⟩
  | 21 => ⟨S2x128, .f32⟩
  | 22 => ⟨S2x1x128, .f32⟩
  | 23 => ⟨S2x128, .f32⟩
  | 24 => ⟨S4x128, .f32⟩
  | 25 => ⟨S128x4, .f32⟩
  | 26 => ⟨S128x4, .bf16⟩
  | 27 => ⟨S2x1x1x128x128, .f32⟩
  | 28 => ⟨S2x128x128, .f32⟩
  | 29 => ⟨S1x128x128, .f32⟩
  | 30 => ⟨S128x128, .f32⟩
  | 31 => ⟨S1x128x128, .f32⟩
  | 32 => ⟨S128x128, .f32⟩
  | 33 => ⟨S128x256, .f32⟩
  | 34 => ⟨S128x256, .bf16⟩
  | 35 => ⟨S2x1x1x128x128, .f32⟩
  | 36 => ⟨S2x128x128, .f32⟩
  | 37 => ⟨S2x128x128, .bf16⟩
  | 38 => ⟨S1x128, .f32⟩
  | 39 => ⟨S1x128, .f32⟩
  | 40 => ⟨S1x256, .f32⟩
  | 41 => ⟨S2x1x256, .f32⟩
  | 42 => ⟨S2x256, .f32⟩
  | 43 => ⟨S2x1x256, .f32⟩
  | 44 => ⟨S2x256, .f32⟩
  | 45 => ⟨S4x256, .f32⟩
  | 46 => ⟨S256x4, .f32⟩
  | 47 => ⟨S256x4, .bf16⟩
  | 48 => ⟨S2x1x1x256x128, .f32⟩
  | 49 => ⟨S2x256x128, .f32⟩
  | 50 => ⟨S1x256x128, .f32⟩
  | 51 => ⟨S256x128, .f32⟩
  | 52 => ⟨S1x256x128, .f32⟩
  | 53 => ⟨S256x128, .f32⟩
  | 54 => ⟨S256x256, .f32⟩
  | 55 => ⟨S256x256, .bf16⟩
  | 56 => ⟨S2x1x1x256x128, .f32⟩
  | 57 => ⟨S2x256x128, .f32⟩
  | 58 => ⟨S2x256x128, .bf16⟩
  | 59 => ⟨S1x128, .f32⟩
  | 60 => ⟨S1x128, .f32⟩
  | 61 => ⟨S1x256, .f32⟩
  | 62 => ⟨S2x1x256, .f32⟩
  | 63 => ⟨S2x256, .f32⟩
  | 64 => ⟨S2x1x256, .f32⟩
  | 65 => ⟨S2x256, .f32⟩
  | 66 => ⟨S4x256, .f32⟩
  | 67 => ⟨S256x4, .f32⟩
  | 68 => ⟨S256x4, .bf16⟩
  | 69 => ⟨S2x1x1x256x128, .f32⟩
  | 70 => ⟨S2x256x128, .f32⟩
  | 71 => ⟨S1x256x128, .f32⟩
  | 72 => ⟨S256x128, .f32⟩
  | 73 => ⟨S1x256x128, .f32⟩
  | 74 => ⟨S256x128, .f32⟩
  | 75 => ⟨S256x256, .f32⟩
  | 76 => ⟨S256x256, .bf16⟩
  | 77 => ⟨S2x1x1x256x128, .f32⟩
  | 78 => ⟨S2x256x128, .f32⟩
  | 79 => ⟨S2x256x128, .bf16⟩
  | 80 => ⟨S1x128, .f32⟩
  | 81 => ⟨S1x128, .f32⟩
  | 82 => ⟨S1x256, .f32⟩
  | 83 => ⟨S2x1x256, .f32⟩
  | 84 => ⟨S2x256, .f32⟩
  | 85 => ⟨S2x1x256, .f32⟩
  | 86 => ⟨S2x256, .f32⟩
  | 87 => ⟨S4x256, .f32⟩
  | 88 => ⟨S256x4, .f32⟩
  | 89 => ⟨S256x4, .bf16⟩
  | 90 => ⟨S2x1x1x256x128, .f32⟩
  | 91 => ⟨S2x256x128, .f32⟩
  | 92 => ⟨S1x256x128, .f32⟩
  | 93 => ⟨S256x128, .f32⟩
  | 94 => ⟨S1x256x128, .f32⟩
  | 95 => ⟨S256x128, .f32⟩
  | 96 => ⟨S256x256, .f32⟩
  | 97 => ⟨S256x256, .bf16⟩
  | 98 => ⟨S2x1x1x256x128, .f32⟩
  | 99 => ⟨S2x256x128, .f32⟩
  | 100 => ⟨S2x256x128, .bf16⟩
  | 101 => ⟨S1x128, .f32⟩
  | 102 => ⟨S1x128, .f32⟩
  | 103 => ⟨S1x256, .f32⟩
  | 104 => ⟨S2x1x128, .f32⟩
  | 105 => ⟨S2x128, .f32⟩
  | 106 => ⟨S2x1x128, .f32⟩
  | 107 => ⟨S2x128, .f32⟩
  | 108 => ⟨S4x128, .f32⟩
  | 109 => ⟨S128x4, .f32⟩
  | 110 => ⟨S128x4, .bf16⟩
  | 111 => ⟨S2x1x1x128x128, .f32⟩
  | 112 => ⟨S2x128x128, .f32⟩
  | 113 => ⟨S1x128x128, .f32⟩
  | 114 => ⟨S128x128, .f32⟩
  | 115 => ⟨S1x128x128, .f32⟩
  | 116 => ⟨S128x128, .f32⟩
  | 117 => ⟨S128x256, .f32⟩
  | 118 => ⟨S128x256, .bf16⟩
  | 119 => ⟨S2x1x1x128x128, .f32⟩
  | 120 => ⟨S2x128x128, .f32⟩
  | 121 => ⟨S2x128x128, .bf16⟩
  | 122 => ⟨S1x128, .f32⟩
  | 123 => ⟨S1x128, .f32⟩
  | 124 => ⟨S1x256, .f32⟩
  | 125 => ⟨S2x1x256, .f32⟩
  | 126 => ⟨S2x256, .f32⟩
  | 127 => ⟨S2x1x256, .f32⟩
  | _ => ⟨S16x128x512, .f32⟩

abbrev hbmTy0_1 (i : Nat) : BufTy := match i % 128 with
  | 0 => ⟨S2x256, .f32⟩
  | 1 => ⟨S4x256, .f32⟩
  | 2 => ⟨S256x4, .f32⟩
  | 3 => ⟨S256x4, .bf16⟩
  | 4 => ⟨S2x1x1x256x128, .f32⟩
  | 5 => ⟨S2x256x128, .f32⟩
  | 6 => ⟨S1x256x128, .f32⟩
  | 7 => ⟨S256x128, .f32⟩
  | 8 => ⟨S1x256x128, .f32⟩
  | 9 => ⟨S256x128, .f32⟩
  | 10 => ⟨S256x256, .f32⟩
  | 11 => ⟨S256x256, .bf16⟩
  | 12 => ⟨S2x1x1x256x128, .f32⟩
  | 13 => ⟨S2x256x128, .f32⟩
  | 14 => ⟨S2x256x128, .bf16⟩
  | 15 => ⟨S1x128, .f32⟩
  | 16 => ⟨S1x128, .f32⟩
  | 17 => ⟨S1x256, .f32⟩
  | 18 => ⟨S16x256x512, .f32⟩
  | _ => ⟨S16x128x512, .f32⟩

abbrev hbmTy (i : Nat) : BufTy := match i / 128 with
  | 0 => hbmTy0_0 i
  | 1 => hbmTy0_1 i
  | _ => ⟨S16x128x512, .f32⟩

abbrev bufTy : (tb : Table) → Fin (tcTables nBuf tb) → BufTy
  | .hbm, ⟨i, _⟩ => hbmTy i
  | .local _ .vmem, ⟨0, _⟩ => ⟨S2x128x512, .f32⟩
  | .local _ .vmem, ⟨1, _⟩ => ⟨S2x128x512, .f32⟩
  | .local _ .vmem, ⟨2, _⟩ => ⟨S2x2x512x512, .f32⟩
  | .local _ .vmem, ⟨3, _⟩ => ⟨S2x2x512x512, .f32⟩
  | .local _ .vmem, ⟨4, _⟩ => ⟨S128x4, .bf16⟩
  | .local _ .vmem, ⟨5, _⟩ => ⟨S128x256, .bf16⟩
  | .local _ .vmem, ⟨6, _⟩ => ⟨S2x128x128, .bf16⟩
  | .local _ .vmem, ⟨7, _⟩ => ⟨S1x256, .f32⟩
  | .local _ .vmem, ⟨8, _⟩ => ⟨S256x4, .bf16⟩
  | .local _ .vmem, ⟨9, _⟩ => ⟨S256x256, .bf16⟩
  | .local _ .vmem, ⟨10, _⟩ => ⟨S2x256x128, .bf16⟩
  | .local _ .vmem, ⟨11, _⟩ => ⟨S1x256, .f32⟩
  | .local _ .vmem, ⟨12, _⟩ => ⟨S256x4, .bf16⟩
  | .local _ .vmem, ⟨13, _⟩ => ⟨S256x256, .bf16⟩
  | .local _ .vmem, ⟨14, _⟩ => ⟨S2x256x128, .bf16⟩
  | .local _ .vmem, ⟨15, _⟩ => ⟨S1x256, .f32⟩
  | .local _ .vmem, ⟨16, _⟩ => ⟨S256x4, .bf16⟩
  | .local _ .vmem, ⟨17, _⟩ => ⟨S256x256, .bf16⟩
  | .local _ .vmem, ⟨18, _⟩ => ⟨S2x256x128, .bf16⟩
  | .local _ .vmem, ⟨19, _⟩ => ⟨S1x256, .f32⟩
  | .local _ .vmem, ⟨20, _⟩ => ⟨S128x4, .bf16⟩
  | .local _ .vmem, ⟨21, _⟩ => ⟨S128x256, .bf16⟩
  | .local _ .vmem, ⟨22, _⟩ => ⟨S2x128x128, .bf16⟩
  | .local _ .vmem, ⟨23, _⟩ => ⟨S1x256, .f32⟩
  | .local _ .vmem, ⟨24, _⟩ => ⟨S256x4, .bf16⟩
  | .local _ .vmem, ⟨25, _⟩ => ⟨S256x256, .bf16⟩
  | .local _ .vmem, ⟨26, _⟩ => ⟨S2x256x128, .bf16⟩
  | .local _ .vmem, ⟨27, _⟩ => ⟨S1x256, .f32⟩
  | .local _ .vmem, ⟨28, _⟩ => ⟨S2x256x512, .f32⟩
  | .local _ .vmem, ⟨29, _⟩ => ⟨S2x256x512, .f32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_call0_v58 : Ref sig .tc := ⟨.hbm, 78, rfl⟩
abbrev main_call0_v59 : Ref sig .tc := ⟨.hbm, 79, rfl⟩
abbrev main_call0_v60 : Ref sig .tc := ⟨.hbm, 80, rfl⟩
abbrev main_call0_v61 : Ref sig .tc := ⟨.hbm, 81, rfl⟩
abbrev main_call0_v62 : Ref sig .tc := ⟨.hbm, 82, rfl⟩
abbrev main_call0_v63 : Ref sig .tc := ⟨.hbm, 83, rfl⟩
abbrev main_call0_v64 : Ref sig .tc := ⟨.hbm, 84, rfl⟩
abbrev main_call0_v65 : Ref sig .tc := ⟨.hbm, 85, rfl⟩
abbrev main_call0_v66 : Ref sig .tc := ⟨.hbm, 86, rfl⟩
abbrev main_call0_v67 : Ref sig .tc := ⟨.hbm, 87, rfl⟩
abbrev main_call0_v68 : Ref sig .tc := ⟨.hbm, 88, rfl⟩
abbrev main_call0_v69 : Ref sig .tc := ⟨.hbm, 89, rfl⟩
abbrev main_call0_v70 : Ref sig .tc := ⟨.hbm, 90, rfl⟩
abbrev main_call0_v71 : Ref sig .tc := ⟨.hbm, 91, rfl⟩
abbrev main_call0_v72 : Ref sig .tc := ⟨.hbm, 92, rfl⟩
abbrev main_call0_v73 : Ref sig .tc := ⟨.hbm, 93, rfl⟩
abbrev main_call0_v74 : Ref sig .tc := ⟨.hbm, 94, rfl⟩
abbrev main_call0_v75 : Ref sig .tc := ⟨.hbm, 95, rfl⟩
abbrev main_call0_v76 : Ref sig .tc := ⟨.hbm, 96, rfl⟩
abbrev main_call0_v77 : Ref sig .tc := ⟨.hbm, 97, rfl⟩
abbrev main_call0_v78 : Ref sig .tc := ⟨.hbm, 98, rfl⟩
abbrev main_call0_v79 : Ref sig .tc := ⟨.hbm, 99, rfl⟩
abbrev main_call0_v80 : Ref sig .tc := ⟨.hbm, 100, rfl⟩
abbrev main_call0_v81 : Ref sig .tc := ⟨.hbm, 101, rfl⟩
abbrev main_call0_v82 : Ref sig .tc := ⟨.hbm, 102, rfl⟩
abbrev main_call0_v83 : Ref sig .tc := ⟨.hbm, 103, rfl⟩
abbrev main_call0_v84 : Ref sig .tc := ⟨.hbm, 104, rfl⟩
abbrev main_call0_v85 : Ref sig .tc := ⟨.hbm, 105, rfl⟩
abbrev main_call0_v86 : Ref sig .tc := ⟨.hbm, 106, rfl⟩
abbrev main_call0_v87 : Ref sig .tc := ⟨.hbm, 107, rfl⟩
abbrev main_call0_v88 : Ref sig .tc := ⟨.hbm, 108, rfl⟩
abbrev main_call0_v89 : Ref sig .tc := ⟨.hbm, 109, rfl⟩
abbrev main_call0_v90 : Ref sig .tc := ⟨.hbm, 110, rfl⟩
abbrev main_call0_v91 : Ref sig .tc := ⟨.hbm, 111, rfl⟩
abbrev main_call0_v92 : Ref sig .tc := ⟨.hbm, 112, rfl⟩
abbrev main_call0_v93 : Ref sig .tc := ⟨.hbm, 113, rfl⟩
abbrev main_call0_v94 : Ref sig .tc := ⟨.hbm, 114, rfl⟩
abbrev main_call0_v95 : Ref sig .tc := ⟨.hbm, 115, rfl⟩
abbrev main_call0_v96 : Ref sig .tc := ⟨.hbm, 116, rfl⟩
abbrev main_call0_v97 : Ref sig .tc := ⟨.hbm, 117, rfl⟩
abbrev main_call0_v98 : Ref sig .tc := ⟨.hbm, 118, rfl⟩
abbrev main_call0_v99 : Ref sig .tc := ⟨.hbm, 119, rfl⟩
abbrev main_call0_v100 : Ref sig .tc := ⟨.hbm, 120, rfl⟩
abbrev main_call0_v101 : Ref sig .tc := ⟨.hbm, 121, rfl⟩
abbrev main_call0_v102 : Ref sig .tc := ⟨.hbm, 122, rfl⟩
abbrev main_call0_v103 : Ref sig .tc := ⟨.hbm, 123, rfl⟩
abbrev main_call0_v104 : Ref sig .tc := ⟨.hbm, 124, rfl⟩
abbrev main_call0_v105 : Ref sig .tc := ⟨.hbm, 125, rfl⟩
abbrev main_call0_v106 : Ref sig .tc := ⟨.hbm, 126, rfl⟩
abbrev main_call0_v107 : Ref sig .tc := ⟨.hbm, 127, rfl⟩
abbrev main_call0_v108 : Ref sig .tc := ⟨.hbm, 128, rfl⟩
abbrev main_call0_v109 : Ref sig .tc := ⟨.hbm, 129, rfl⟩
abbrev main_call0_v110 : Ref sig .tc := ⟨.hbm, 130, rfl⟩
abbrev main_call0_v111 : Ref sig .tc := ⟨.hbm, 131, rfl⟩
abbrev main_call0_v112 : Ref sig .tc := ⟨.hbm, 132, rfl⟩
abbrev main_call0_v113 : Ref sig .tc := ⟨.hbm, 133, rfl⟩
abbrev main_call0_v114 : Ref sig .tc := ⟨.hbm, 134, rfl⟩
abbrev main_call0_v115 : Ref sig .tc := ⟨.hbm, 135, rfl⟩
abbrev main_call0_v116 : Ref sig .tc := ⟨.hbm, 136, rfl⟩
abbrev main_call0_v117 : Ref sig .tc := ⟨.hbm, 137, rfl⟩
abbrev main_call0_v118 : Ref sig .tc := ⟨.hbm, 138, rfl⟩
abbrev main_call0_v119 : Ref sig .tc := ⟨.hbm, 139, rfl⟩
abbrev main_call0_v120 : Ref sig .tc := ⟨.hbm, 140, rfl⟩
abbrev main_call0_v121 : Ref sig .tc := ⟨.hbm, 141, rfl⟩
abbrev main_call0_v122 : Ref sig .tc := ⟨.hbm, 142, rfl⟩
abbrev main_call0_v123 : Ref sig .tc := ⟨.hbm, 143, rfl⟩
abbrev main_call0_v124 : Ref sig .tc := ⟨.hbm, 144, rfl⟩
abbrev main_call0_v125 : Ref sig .tc := ⟨.hbm, 145, rfl⟩
abbrev main_v0 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x4 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x4 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x256x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x4 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x4 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2x256x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2x256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KernelIdeal.lean ====
variable {F : FTy → Type} [FloatOps F] [Named F]
def κ : String → Option EReal := fun
  | "log2e" => some (((Real.log 2)⁻¹ : ℝ) : EReal)
  | "slope_log2e" => some (((13421773 / 67108864) * (Real.log 2)⁻¹ : ℝ) : EReal)
  | _ => none
-- ==== ReferenceIdeal.lean ====
abbrev S16x128x512 : Shape := ⟨3, ![16, 128, 512]⟩
abbrev S16x2x512x512 : Shape := ⟨4, ![16, 2, 512, 512]⟩
abbrev S2x1x256 : Shape := ⟨3, ![2, 1, 256]⟩
abbrev S2x1x2x128x128 : Shape := ⟨5, ![2, 1, 2, 128, 128]⟩
abbrev S128x1 : Shape := ⟨2, ![128, 1]⟩
abbrev S2x1x512 : Shape := ⟨3, ![2, 1, 512]⟩
abbrev S2x1x2x256x128 : Shape := ⟨5, ![2, 1, 2, 256, 128]⟩
abbrev S16x1x512x512 : Shape := ⟨4, ![16, 1, 512, 512]⟩
abbrev S16x1x1x512x512 : Shape := ⟨5, ![16, 1, 1, 512, 512]⟩
abbrev S_ : Shape := ⟨0, ![]⟩
abbrev S16x512x128 : Shape := ⟨3, ![16, 512, 128]⟩
abbrev S2x1x128 : Shape := ⟨3, ![2, 1, 128]⟩
abbrev S16x1x1x128x512 : Shape := ⟨5, ![16, 1, 1, 128, 512]⟩
abbrev S16x2x1x128x512 : Shape := ⟨5, ![16, 2, 1, 128, 512]⟩
abbrev S2x1x1x128x128 : Shape := ⟨5, ![2, 1, 1, 128, 128]⟩
abbrev S2x1x128x128 : Shape := ⟨4, ![2, 1, 128, 128]⟩
abbrev S2x128x16x512 : Shape := ⟨4, ![2, 128, 16, 512]⟩
abbrev S16x2x128x512 : Shape := ⟨4, ![16, 2, 128, 512]⟩
abbrev S2x1x16x512 : Shape := ⟨4, ![2, 1, 16, 512]⟩
abbrev S16x2x1x512 : Shape := ⟨4, ![16, 2, 1, 512]⟩
abbrev S16x2x1x512x1 : Shape := ⟨5, ![16, 2, 1, 512, 1]⟩
abbrev S16x2x1x1x512 : Shape := ⟨5, ![16, 2, 1, 1, 512]⟩
abbrev S16x2x1x512x512 : Shape := ⟨5, ![16, 2, 1, 512, 512]⟩
abbrev S1x1x128x1 : Shape := ⟨4, ![1, 1, 128, 1]⟩
abbrev S16x512x2x128 : Shape := ⟨4, ![16, 512, 2, 128]⟩
abbrev S16x512x256 : Shape := ⟨3, ![16, 512, 256]⟩
abbrev S16x256x512 : Shape := ⟨3, ![16, 256, 512]⟩
abbrev S16x1x1x256x512 : Shape := ⟨5, ![16, 1, 1, 256, 512]⟩
abbrev S16x2x1x256x512 : Shape := ⟨5, ![16, 2, 1, 256, 512]⟩
abbrev S2x1x1x256x128 : Shape := ⟨5, ![2, 1, 1, 256, 128]⟩
abbrev S2x1x256x128 : Shape := ⟨4, ![2, 1, 256, 128]⟩

abbrev nBuf : Space → Nat
  | .hbm => 402
  | .vmem => 0
  | .smem => 0
  | _ => 0

abbrev hbmTy0_0 (i : Nat) : BufTy := match i % 128 with
  | 0 => ⟨S16x128x512, .f32⟩
  | 1 => ⟨S16x2x512x512, .f32⟩
  | 2 => ⟨S2x1x256, .f32⟩
  | 3 => ⟨S2x1x2x128x128, .f32⟩
  | 4 => ⟨S128x1, .f32⟩
  | 5 => ⟨S2x1x512, .f32⟩
  | 6 => ⟨S2x1x2x256x128, .f32⟩
  | 7 => ⟨S128x1, .f32⟩
  | 8 => ⟨S2x1x512, .f32⟩
  | 9 => ⟨S2x1x2x256x128, .f32⟩
  | 10 => ⟨S128x1, .f32⟩
  | 11 => ⟨S2x1x512, .f32⟩
  | 12 => ⟨S2x1x2x256x128, .f32⟩
  | 13 => ⟨S128x1, .f32⟩
  | 14 => ⟨S2x1x256, .f32⟩
  | 15 => ⟨S2x1x2x128x128, .f32⟩
  | 16 => ⟨S128x1, .f32⟩
  | 17 => ⟨S2x1x512, .f32⟩
  | 18 => ⟨S2x1x2x256x128, .f32⟩
  | 19 => ⟨S128x1, .f32⟩
  | 20 => ⟨S16x1x512x512, .f32⟩
  | 21 => ⟨S16x1x512x512, .f32⟩
  | 22 => ⟨S16x1x512x512, .f32⟩
  | 23 => ⟨S16x1x1x512x512, .f32⟩
  | 24 => ⟨S_, .f32⟩
  | 25 => ⟨S16x1x1x512x512, .f32⟩
  | 26 => ⟨S16x1x1x512x512, .i1⟩
  | 27 => ⟨S16x512x128, .f32⟩
  | 28 => ⟨S2x1x128, .f32⟩
  | 29 => ⟨S2x1x128, .f32⟩
  | 30 => ⟨S16x1x1x128x512, .f32⟩
  | 31 => ⟨S16x2x1x128x512, .f32⟩
  | 32 => ⟨S2x1x1x128x128, .f32⟩
  | 33 => ⟨S2x1x128x128, .f32⟩
  | 34 => ⟨S2x128x16x512, .f32⟩
  | 35 => ⟨S16x2x128x512, .f32⟩
  | 36 => ⟨S2x1x16x512, .f32⟩
  | 37 => ⟨S16x2x1x512, .f32⟩
  | 38 => ⟨S2x1x16x512, .f32⟩
  | 39 => ⟨S16x2x1x512, .f32⟩
  | 40 => ⟨S16x2x1x512x1, .f32⟩
  | 41 => ⟨S16x2x1x1x512, .f32⟩
  | 42 => ⟨S16x2x1x512x512, .f32⟩
  | 43 => ⟨S16x2x1x512x512, .f32⟩
  | 44 => ⟨S16x2x1x512x512, .f32⟩
  | 45 => ⟨S_, .f32⟩
  | 46 => ⟨S16x2x1x512x512, .f32⟩
  | 47 => ⟨S16x2x1x512x512, .i1⟩
  | 48 => ⟨S_, .f32⟩
  | 49 => ⟨S16x2x1x512x512, .f32⟩
  | 50 => ⟨S16x2x1x512x512, .f32⟩
  | 51 => ⟨S16x2x1x512x512, .f32⟩
  | 52 => ⟨S16x2x1x512x512, .i1⟩
  | 53 => ⟨S_, .f32⟩
  | 54 => ⟨S16x2x1x512x512, .f32⟩
  | 55 => ⟨S16x2x1x512x512, .f32⟩
  | 56 => ⟨S_, .f32⟩
  | 57 => ⟨S16x2x1x512, .f32⟩
  | 58 => ⟨S_, .f32⟩
  | 59 => ⟨S16x2x1x512, .f32⟩
  | 60 => ⟨S16x2x1x512, .f32⟩
  | 61 => ⟨S16x2x1x512x1, .f32⟩
  | 62 => ⟨S16x2x1x512x512, .f32⟩
  | 63 => ⟨S16x2x1x512x512, .f32⟩
  | 64 => ⟨S16x2x1x512x512, .f32⟩
  | 65 => ⟨S_, .f32⟩
  | 66 => ⟨S16x2x1x512, .f32⟩
  | 67 => ⟨S16x2x1x512x1, .f32⟩
  | 68 => ⟨S16x2x1x512x512, .f32⟩
  | 69 => ⟨S16x2x1x512x512, .f32⟩
  | 70 => ⟨S16x2x1x128x512, .f32⟩
  | 71 => ⟨S2x1x1x128x128, .f32⟩
  | 72 => ⟨S2x1x128x128, .f32⟩
  | 73 => ⟨S2x128x16x512, .f32⟩
  | 74 => ⟨S16x2x128x512, .f32⟩
  | 75 => ⟨S16x2x128x512, .f32⟩
  | 76 => ⟨S1x1x128x1, .f32⟩
  | 77 => ⟨S16x2x128x512, .f32⟩
  | 78 => ⟨S16x2x128x512, .f32⟩
  | 79 => ⟨S_, .f32⟩
  | 80 => ⟨S16x2x128x512, .f32⟩
  | 81 => ⟨S16x2x128x512, .f32⟩
  | 82 => ⟨S16x512x2x128, .f32⟩
  | 83 => ⟨S16x512x256, .f32⟩
  | 84 => ⟨S16x256x512, .f32⟩
  | 85 => ⟨S16x1x512x512, .f32⟩
  | 86 => ⟨S16x1x1x512x512, .f32⟩
  | 87 => ⟨S_, .f32⟩
  | 88 => ⟨S16x1x1x512x512, .f32⟩
  | 89 => ⟨S16x1x1x512x512, .i1⟩
  | 90 => ⟨S16x512x256, .f32⟩
  | 91 => ⟨S2x1x256, .f32⟩
  | 92 => ⟨S2x1x256, .f32⟩
  | 93 => ⟨S16x1x1x256x512, .f32⟩
  | 94 => ⟨S16x2x1x256x512, .f32⟩
  | 95 => ⟨S2x1x1x256x128, .f32⟩
  | 96 => ⟨S2x1x256x128, .f32⟩
  | 97 => ⟨S2x128x16x512, .f32⟩
  | 98 => ⟨S16x2x128x512, .f32⟩
  | 99 => ⟨S2x1x16x512, .f32⟩
  | 100 => ⟨S16x2x1x512, .f32⟩
  | 101 => ⟨S2x1x16x512, .f32⟩
  | 102 => ⟨S16x2x1x512, .f32⟩
  | 103 => ⟨S16x2x1x512x1, .f32⟩
  | 104 => ⟨S16x2x1x1x512, .f32⟩
  | 105 => ⟨S16x2x1x512x512, .f32⟩
  | 106 => ⟨S16x2x1x512x512, .f32⟩
  | 107 => ⟨S16x2x1x512x512, .f32⟩
  | 108 => ⟨S_, .f32⟩
  | 109 => ⟨S16x2x1x512x512, .f32⟩
  | 110 => ⟨S16x2x1x512x512, .i1⟩
  | 111 => ⟨S_, .f32⟩
  | 112 => ⟨S16x2x1x512x512, .f32⟩
  | 113 => ⟨S16x2x1x512x512, .f32⟩
  | 114 => ⟨S16x2x1x512x512, .f32⟩
  | 115 => ⟨S16x2x1x512x512, .i1⟩
  | 116 => ⟨S_, .f32⟩
  | 117 => ⟨S16x2x1x512x512, .f32⟩
  | 118 => ⟨S16x2x1x512x512, .f32⟩
  | 119 => ⟨S_, .f32⟩
  | 120 => ⟨S16x2x1x512, .f32⟩
  | 121 => ⟨S_, .f32⟩
  | 122 => ⟨S16x2x1x512, .f32⟩
  | 123 => ⟨S16x2x1x512, .f32⟩
  | 124 => ⟨S16x2x1x512x1, .f32⟩
  | 125 => ⟨S16x2x1x512x512, .f32⟩
  | 126 => ⟨S16x2x1x512x512, .f32⟩
  | 127 => ⟨S16x2x1x512x512, .f32⟩
  | _ => ⟨S16x128x512, .f32⟩

abbrev hbmTy0_1 (i : Nat) : BufTy := match i % 128 with
  | 0 => ⟨S_, .f32⟩
  | 1 => ⟨S16x2x1x512, .f32⟩
  | 2 => ⟨S16x2x1x512x1, .f32⟩
  | 3 => ⟨S16x2x1x512x512, .f32⟩
  | 4 => ⟨S16x2x1x512x512, .f32⟩
  | 5 => ⟨S16x2x1x256x512, .f32⟩
  | 6 => ⟨S2x1x1x256x128, .f32⟩
  | 7 => ⟨S2x1x256x128, .f32⟩
  | 8 => ⟨S2x128x16x512, .f32⟩
  | 9 => ⟨S16x2x128x512, .f32⟩
  | 10 => ⟨S16x2x128x512, .f32⟩
  | 11 => ⟨S1x1x128x1, .f32⟩
  | 12 => ⟨S16x2x128x512, .f32⟩
  | 13 => ⟨S16x2x128x512, .f32⟩
  | 14 => ⟨S_, .f32⟩
  | 15 => ⟨S16x2x128x512, .f32⟩
  | 16 => ⟨S16x2x128x512, .f32⟩
  | 17 => ⟨S16x512x2x128, .f32⟩
  | 18 => ⟨S16x512x256, .f32⟩
  | 19 => ⟨S16x256x512, .f32⟩
  | 20 => ⟨S16x1x512x512, .f32⟩
  | 21 => ⟨S16x1x1x512x512, .f32⟩
  | 22 => ⟨S_, .f32⟩
  | 23 => ⟨S16x1x1x512x512, .f32⟩
  | 24 => ⟨S16x1x1x512x512, .i1⟩
  | 25 => ⟨S16x512x256, .f32⟩
  | 26 => ⟨S2x1x256, .f32⟩
  | 27 => ⟨S2x1x256, .f32⟩
  | 28 => ⟨S16x1x1x256x512, .f32⟩
  | 29 => ⟨S16x2x1x256x512, .f32⟩
  | 30 => ⟨S2x1x1x256x128, .f32⟩
  | 31 => ⟨S2x1x256x128, .f32⟩
  | 32 => ⟨S2x128x16x512, .f32⟩
  | 33 => ⟨S16x2x128x512, .f32⟩
  | 34 => ⟨S2x1x16x512, .f32⟩
  | 35 => ⟨S16x2x1x512, .f32⟩
  | 36 => ⟨S2x1x16x512, .f32⟩
  | 37 => ⟨S16x2x1x512, .f32⟩
  | 38 => ⟨S16x2x1x512x1, .f32⟩
  | 39 => ⟨S16x2x1x1x512, .f32⟩
  | 40 => ⟨S16x2x1x512x512, .f32⟩
  | 41 => ⟨S16x2x1x512x512, .f32⟩
  | 42 => ⟨S16x2x1x512x512, .f32⟩
  | 43 => ⟨S_, .f32⟩
  | 44 => ⟨S16x2x1x512x512, .f32⟩
  | 45 => ⟨S16x2x1x512x512, .i1⟩
  | 46 => ⟨S_, .f32⟩
  | 47 => ⟨S16x2x1x512x512, .f32⟩
  | 48 => ⟨S16x2x1x512x512, .f32⟩
  | 49 => ⟨S16x2x1x512x512, .f32⟩
  | 50 => ⟨S16x2x1x512x512, .i1⟩
  | 51 => ⟨S_, .f32⟩
  | 52 => ⟨S16x2x1x512x512, .f32⟩
  | 53 => ⟨S16x2x1x512x512, .f32⟩
  | 54 => ⟨S_, .f32⟩
  | 55 => ⟨S16x2x1x512, .f32⟩
  | 56 => ⟨S_, .f32⟩
  | 57 => ⟨S16x2x1x512, .f32⟩
  | 58 => ⟨S16x2x1x512, .f32⟩
  | 59 => ⟨S16x2x1x512x1, .f32⟩
  | 60 => ⟨S16x2x1x512x512, .f32⟩
  | 61 => ⟨S16x2x1x512x512, .f32⟩
  | 62 => ⟨S16x2x1x512x512, .f32⟩
  | 63 => ⟨S_, .f32⟩
  | 64 => ⟨S16x2x1x512, .f32⟩
  | 65 => ⟨S16x2x1x512x1, .f32⟩
  | 66 => ⟨S16x2x1x512x512, .f32⟩
  | 67 => ⟨S16x2x1x512x512, .f32⟩
  | 68 => ⟨S16x2x1x256x512, .f32⟩
  | 69 => ⟨S2x1x1x256x128, .f32⟩
  | 70 => ⟨S2x1x256x128, .f32⟩
  | 71 => ⟨S2x128x16x512, .f32⟩
  | 72 => ⟨S16x2x128x512, .f32⟩
  | 73 => ⟨S16x2x128x512, .f32⟩
  | 74 => ⟨S1x1x128x1, .f32⟩
  | 75 => ⟨S16x2x128x512, .f32⟩
  | 76 => ⟨S16x2x128x512, .f32⟩
  | 77 => ⟨S_, .f32⟩
  | 78 => ⟨S16x2x128x512, .f32⟩
  | 79 => ⟨S16x2x128x512, .f32⟩
  | 80 => ⟨S16x512x2x128, .f32⟩
  | 81 => ⟨S16x512x256, .f32⟩
  | 82 => ⟨S16x256x512, .f32⟩
  | 83 => ⟨S16x1x512x512, .f32⟩
  | 84 => ⟨S16x1x1x512x512, .f32⟩
  | 85 => ⟨S_, .f32⟩
  | 86 => ⟨S16x1x1x512x512, .f32⟩
  | 87 => ⟨S16x1x1x512x512, .i1⟩
  | 88 => ⟨S16x512x256, .f32⟩
  | 89 => ⟨S2x1x256, .f32⟩
  | 90 => ⟨S2x1x256, .f32⟩
  | 91 => ⟨S16x1x1x256x512, .f32⟩
  | 92 => ⟨S16x2x1x256x512, .f32⟩
  | 93 => ⟨S2x1x1x256x128, .f32⟩
  | 94 => ⟨S2x1x256x128, .f32⟩
  | 95 => ⟨S2x128x16x512, .f32⟩
  | 96 => ⟨S16x2x128x512, .f32⟩
  | 97 => ⟨S2x1x16x512, .f32⟩
  | 98 => ⟨S16x2x1x512, .f32⟩
  | 99 => ⟨S2x1x16x512, .f32⟩
  | 100 => ⟨S16x2x1x512, .f32⟩
  | 101 => ⟨S16x2x1x512x1, .f32⟩
  | 102 => ⟨S16x2x1x1x512, .f32⟩
  | 103 => ⟨S16x2x1x512x512, .f32⟩
  | 104 => ⟨S16x2x1x512x512, .f32⟩
  | 105 => ⟨S16x2x1x512x512, .f32⟩
  | 106 => ⟨S_, .f32⟩
  | 107 => ⟨S16x2x1x512x512, .f32⟩
  | 108 => ⟨S16x2x1x512x512, .i1⟩
  | 109 => ⟨S_, .f32⟩
  | 110 => ⟨S16x2x1x512x512, .f32⟩
  | 111 => ⟨S16x2x1x512x512, .f32⟩
  | 112 => ⟨S16x2x1x512x512, .f32⟩
  | 113 => ⟨S16x2x1x512x512, .i1⟩
  | 114 => ⟨S_, .f32⟩
  | 115 => ⟨S16x2x1x512x512, .f32⟩
  | 116 => ⟨S16x2x1x512x512, .f32⟩
  | 117 => ⟨S_, .f32⟩
  | 118 => ⟨S16x2x1x512, .f32⟩
  | 119 => ⟨S_, .f32⟩
  | 120 => ⟨S16x2x1x512, .f32⟩
  | 121 => ⟨S16x2x1x512, .f32⟩
  | 122 => ⟨S16x2x1x512x1, .f32⟩
  | 123 => ⟨S16x2x1x512x512, .f32⟩
  | 124 => ⟨S16x2x1x512x512, .f32⟩
  | 125 => ⟨S16x2x1x512x512, .f32⟩
  | 126 => ⟨S_, .f32⟩
  | 127 => ⟨S16x2x1x512, .f32⟩
  | _ => ⟨S16x128x512, .f32⟩

abbrev hbmTy0_2 (i : Nat) : BufTy := match i % 128 with
  | 0 => ⟨S16x2x1x512x1, .f32⟩
  | 1 => ⟨S16x2x1x512x512, .f32⟩
  | 2 => ⟨S16x2x1x512x512, .f32⟩
  | 3 => ⟨S16x2x1x256x512, .f32⟩
  | 4 => ⟨S2x1x1x256x128, .f32⟩
  | 5 => ⟨S2x1x256x128, .f32⟩
  | 6 => ⟨S2x128x16x512, .f32⟩
  | 7 => ⟨S16x2x128x512, .f32⟩
  | 8 => ⟨S16x2x128x512, .f32⟩
  | 9 => ⟨S1x1x128x1, .f32⟩
  | 10 => ⟨S16x2x128x512, .f32⟩
  | 11 => ⟨S16x2x128x512, .f32⟩
  | 12 => ⟨S_, .f32⟩
  | 13 => ⟨S16x2x128x512, .f32⟩
  | 14 => ⟨S16x2x128x512, .f32⟩
  | 15 => ⟨S16x512x2x128, .f32⟩
  | 16 => ⟨S16x512x256, .f32⟩
  | 17 => ⟨S16x256x512, .f32⟩
  | 18 => ⟨S16x256x512, .f32⟩
  | 19 => ⟨S16x1x512x512, .f32⟩
  | 20 => ⟨S16x1x1x512x512, .f32⟩
  | 21 => ⟨S_, .f32⟩
  | 22 => ⟨S16x1x1x512x512, .f32⟩
  | 23 => ⟨S16x1x1x512x512, .i1⟩
  | 24 => ⟨S16x512x256, .f32⟩
  | 25 => ⟨S2x1x256, .f32⟩
  | 26 => ⟨S2x1x256, .f32⟩
  | 27 => ⟨S16x1x1x256x512, .f32⟩
  | 28 => ⟨S16x2x1x256x512, .f32⟩
  | 29 => ⟨S2x1x1x256x128, .f32⟩
  | 30 => ⟨S2x1x256x128, .f32⟩
  | 31 => ⟨S2x128x16x512, .f32⟩
  | 32 => ⟨S16x2x128x512, .f32⟩
  | 33 => ⟨S2x1x16x512, .f32⟩
  | 34 => ⟨S16x2x1x512, .f32⟩
  | 35 => ⟨S2x1x16x512, .f32⟩
  | 36 => ⟨S16x2x1x512, .f32⟩
  | 37 => ⟨S16x2x1x512x1, .f32⟩
  | 38 => ⟨S16x2x1x1x512, .f32⟩
  | 39 => ⟨S16x2x1x512x512, .f32⟩
  | 40 => ⟨S16x2x1x512x512, .f32⟩
  | 41 => ⟨S16x2x1x512x512, .f32⟩
  | 42 => ⟨S_, .f32⟩
  | 43 => ⟨S16x2x1x512x512, .f32⟩
  | 44 => ⟨S16x2x1x512x512, .i1⟩
  | 45 => ⟨S_, .f32⟩
  | 46 => ⟨S16x2x1x512x512, .f32⟩
  | 47 => ⟨S16x2x1x512x512, .f32⟩
  | 48 => ⟨S16x2x1x512x512, .f32⟩
  | 49 => ⟨S16x2x1x512x512, .i1⟩
  | 50 => ⟨S_, .f32⟩
  | 51 => ⟨S16x2x1x512x512, .f32⟩
  | 52 => ⟨S16x2x1x512x512, .f32⟩
  | 53 => ⟨S_, .f32⟩
  | 54 => ⟨S16x2x1x512, .f32⟩
  | 55 => ⟨S_, .f32⟩
  | 56 => ⟨S16x2x1x512, .f32⟩
  | 57 => ⟨S16x2x1x512, .f32⟩
  | 58 => ⟨S16x2x1x512x1, .f32⟩
  | 59 => ⟨S16x2x1x512x512, .f32⟩
  | 60 => ⟨S16x2x1x512x512, .f32⟩
  | 61 => ⟨S16x2x1x512x512, .f32⟩
  | 62 => ⟨S_, .f32⟩
  | 63 => ⟨S16x2x1x512, .f32⟩
  | 64 => ⟨S16x2x1x512x1, .f32⟩
  | 65 => ⟨S16x2x1x512x512, .f32⟩
  | 66 => ⟨S16x2x1x512x512, .f32⟩
  | 67 => ⟨S16x2x1x256x512, .f32⟩
  | 68 => ⟨S2x1x1x256x128, .f32⟩
  | 69 => ⟨S2x1x256x128, .f32⟩
  | 70 => ⟨S2x128x16x512, .f32⟩
  | 71 => ⟨S16x2x128x512, .f32⟩
  | 72 => ⟨S16x2x128x512, .f32⟩
  | 73 => ⟨S1x1x128x1, .f32⟩
  | 74 => ⟨S16x2x128x512, .f32⟩
  | 75 => ⟨S16x2x128x512, .f32⟩
  | 76 => ⟨S_, .f32⟩
  | 77 => ⟨S16x2x128x512, .f32⟩
  | 78 => ⟨S16x2x128x512, .f32⟩
  | 79 => ⟨S16x512x2x128, .f32⟩
  | 80 => ⟨S16x512x256, .f32⟩
  | 81 => ⟨S16x256x512, .f32⟩
  | 82 => ⟨S16x1x512x512, .f32⟩
  | 83 => ⟨S16x1x1x512x512, .f32⟩
  | 84 => ⟨S_, .f32⟩
  | 85 => ⟨S16x1x1x512x512, .f32⟩
  | 86 => ⟨S16x1x1x512x512, .i1⟩
  | 87 => ⟨S16x512x128, .f32⟩
  | 88 => ⟨S2x1x128, .f32⟩
  | 89 => ⟨S2x1x128, .f32⟩
  | 90 => ⟨S16x1x1x128x512, .f32⟩
  | 91 => ⟨S16x2x1x128x512, .f32⟩
  | 92 => ⟨S2x1x1x128x128, .f32⟩
  | 93 => ⟨S2x1x128x128, .f32⟩
  | 94 => ⟨S2x128x16x512, .f32⟩
  | 95 => ⟨S16x2x128x512, .f32⟩
  | 96 => ⟨S2x1x16x512, .f32⟩
  | 97 => ⟨S16x2x1x512, .f32⟩
  | 98 => ⟨S2x1x16x512, .f32⟩
  | 99 => ⟨S16x2x1x512, .f32⟩
  | 100 => ⟨S16x2x1x512x1, .f32⟩
  | 101 => ⟨S16x2x1x1x512, .f32⟩
  | 102 => ⟨S16x2x1x512x512, .f32⟩
  | 103 => ⟨S16x2x1x512x512, .f32⟩
  | 104 => ⟨S16x2x1x512x512, .f32⟩
  | 105 => ⟨S_, .f32⟩
  | 106 => ⟨S16x2x1x512x512, .f32⟩
  | 107 => ⟨S16x2x1x512x512, .i1⟩
  | 108 => ⟨S_, .f32⟩
  | 109 => ⟨S16x2x1x512x512, .f32⟩
  | 110 => ⟨S16x2x1x512x512, .f32⟩
  | 111 => ⟨S16x2x1x512x512, .f32⟩
  | 112 => ⟨S16x2x1x512x512, .i1⟩
  | 113 => ⟨S_, .f32⟩
  | 114 => ⟨S16x2x1x512x512, .f32⟩
  | 115 => ⟨S16x2x1x512x512, .f32⟩
  | 116 => ⟨S_, .f32⟩
  | 117 => ⟨S16x2x1x512, .f32⟩
  | 118 => ⟨S_, .f32⟩
  | 119 => ⟨S16x2x1x512, .f32⟩
  | 120 => ⟨S16x2x1x512, .f32⟩
  | 121 => ⟨S16x2x1x512x1, .f32⟩
  | 122 => ⟨S16x2x1x512x512, .f32⟩
  | 123 => ⟨S16x2x1x512x512, .f32⟩
  | 124 => ⟨S16x2x1x512x512, .f32⟩
  | 125 => ⟨S_, .f32⟩
  | 126 => ⟨S16x2x1x512, .f32⟩
  | 127 => ⟨S16x2x1x512x1, .f32⟩
  | _ => ⟨S16x128x512, .f32⟩

abbrev hbmTy0_3 (i : Nat) : BufTy := match i % 128 with
  | 0 => ⟨S16x2x1x512x512, .f32⟩
  | 1 => ⟨S16x2x1x512x512, .f32⟩
  | 2 => ⟨S16x2x1x128x512, .f32⟩
  | 3 => ⟨S2x1x1x128x128, .f32⟩
  | 4 => ⟨S2x1x128x128, .f32⟩
  | 5 => ⟨S2x128x16x512, .f32⟩
  | 6 => ⟨S16x2x128x512, .f32⟩
  | 7 => ⟨S16x2x128x512, .f32⟩
  | 8 => ⟨S1x1x128x1, .f32⟩
  | 9 => ⟨S16x2x128x512, .f32⟩
  | 10 => ⟨S16x2x128x512, .f32⟩
  | 11 => ⟨S_, .f32⟩
  | 12 => ⟨S16x2x128x512, .f32⟩
  | 13 => ⟨S16x2x128x512, .f32⟩
  | 14 => ⟨S16x512x2x128, .f32⟩
  | 15 => ⟨S16x512x256, .f32⟩
  | 16 => ⟨S16x256x512, .f32⟩
  | 17 => ⟨S16x256x512, .f32⟩
  | _ => ⟨S16x128x512, .f32⟩

abbrev hbmTy (i : Nat) : BufTy := match i / 128 with
  | 0 => hbmTy0_0 i
  | 1 => hbmTy0_1 i
  | 2 => hbmTy0_2 i
  | 3 => hbmTy0_3 i
  | _ => ⟨S16x128x512, .f32⟩

abbrev bufTy : (tb : Table) → Fin (tcTables nBuf tb) → BufTy
  | .hbm, ⟨i, _⟩ => hbmTy i
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_8 : Ref sig .tc := ⟨.hbm, 108, rfl⟩
abbrev main_v79 : Ref sig .tc := ⟨.hbm, 109, rfl⟩
abbrev main_v80 : Ref sig .tc := ⟨.hbm, 110, rfl⟩
abbrev main_cst_9 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_10 : Ref sig .tc := ⟨.hbm, 116, rfl⟩
abbrev main_v85 : Ref sig .tc := ⟨.hbm, 117, rfl⟩
abbrev main_v86 : Ref sig .tc := ⟨.hbm, 118, rfl⟩
abbrev main_cst_11 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_14 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_15 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_16 : Ref sig .tc := ⟨.hbm, 171, rfl⟩
abbrev main_v134 : Ref sig .tc := ⟨.hbm, 172, rfl⟩
abbrev main_v135 : Ref sig .tc := ⟨.hbm, 173, rfl⟩
abbrev main_cst_17 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_18 : Ref sig .tc := ⟨.hbm, 179, rfl⟩
abbrev main_v140 : Ref sig .tc := ⟨.hbm, 180, rfl⟩
abbrev main_v141 : Ref sig .tc := ⟨.hbm, 181, rfl⟩
abbrev main_cst_19 : Ref sig .tc := ⟨.hbm, 182, rfl⟩
abbrev main_v142 : Ref sig .tc := ⟨.hbm, 183, rfl⟩
abbrev main_cst_20 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_21 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_22 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_23 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_24 : Ref sig .tc := ⟨.hbm, 234, rfl⟩
abbrev main_v189 : Ref sig .tc := ⟨.hbm, 235, rfl⟩
abbrev main_v190 : Ref sig .tc := ⟨.hbm, 236, rfl⟩
abbrev main_cst_25 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_cst_26 : Ref sig .tc := ⟨.hbm, 242, rfl⟩
abbrev main_v195 : Ref sig .tc := ⟨.hbm, 243, rfl⟩
abbrev main_v196 : Ref sig .tc := ⟨.hbm, 244, rfl⟩
abbrev main_cst_27 : Ref sig .tc := ⟨.hbm, 245, rfl⟩
abbrev main_v197 : Ref sig .tc := ⟨.hbm, 246, rfl⟩
abbrev main_cst_28 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_29 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_30 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_31 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_cst_32 : Ref sig .tc := ⟨.hbm, 298, rfl⟩
abbrev main_v245 : Ref sig .tc := ⟨.hbm, 299, rfl⟩
abbrev main_v246 : Ref sig .tc := ⟨.hbm, 300, rfl⟩
abbrev main_cst_33 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_cst_34 : Ref sig .tc := ⟨.hbm, 306, rfl⟩
abbrev main_v251 : Ref sig .tc := ⟨.hbm, 307, rfl⟩
abbrev main_v252 : Ref sig .tc := ⟨.hbm, 308, rfl⟩
abbrev main_cst_35 : Ref sig .tc := ⟨.hbm, 309, rfl⟩
abbrev main_v253 : Ref sig .tc := ⟨.hbm, 310, rfl⟩
abbrev main_cst_36 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_cst_37 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_cst_38 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_cst_39 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_cst_40 : Ref sig .tc := ⟨.hbm, 361, rfl⟩
abbrev main_v300 : Ref sig .tc := ⟨.hbm, 362, rfl⟩
abbrev main_v301 : Ref sig .tc := ⟨.hbm, 363, rfl⟩
abbrev main_cst_41 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_cst_42 : Ref sig .tc := ⟨.hbm, 369, rfl⟩
abbrev main_v306 : Ref sig .tc := ⟨.hbm, 370, rfl⟩
abbrev main_v307 : Ref sig .tc := ⟨.hbm, 371, rfl⟩
abbrev main_cst_43 : Ref sig .tc := ⟨.hbm, 372, rfl⟩
abbrev main_v308 : Ref sig .tc := ⟨.hbm, 373, rfl⟩
abbrev main_cst_44 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_cst_45 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_cst_46 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩

abbrev nD : Nat := 1
abbrev τ : Topo := Topo.v7x

variable {F : FTy → Type} [FloatOps F]
-- ==== Proof.KLayer.lean ====
/-
  THE KERNEL'S LAYER. The kernel runs the same graph attention layer twelve times — six layers for each of the two batch
  elements of a block — and its printed body cuts that text at a different place each time. Here the layer is written once,
  stage by stage in the printed operations, at the two feature counts the kernel has (128 and 256), and each layer result
  of the body is shown to be it.
-/
module

public import proofs.«01_k».proof.Proof.Gen.KernelIdeal.Value

@[expose] public section

set_option maxRecDepth 16384

noncomputable section

namespace Cert.GraphAttn

open Cert.KernelIdeal Cert.KernelIdeal.Gen Idealize.ShloMosaic

/-! ### The stages that do not depend on the feature count -/

/-- The edge mask of one adjacency matrix: 1 where the entry exceeds 1e-9 in absolute value, 0 elsewhere. -/
def kMask (s : FVec Ideal S1x1x512x512 .f32) : FVec Ideal S512x512 .bf16 :=
  truncf .bf16 (sitofp .f32 (extui 32 (cmpf .ogt (absf (shapeCast S512x512 s shapeCasts_S1x1x512x512_S512x512))
    (broadcast S512x512 (Scalar.ofBits .f32 0x3089705F#32))) natLt_1_32)) bitsLt_bf16_f32

/-- The largest score of the second half, as one number. -/
def kTop (y2 : FVec Ideal S512x1 .f32) : Ideal .f32 :=
  extractAt ![0, 0, 0] (shapeCast S1x1x1 (multiReduction .maximumf [1, 2] S1
    (shapeCast S1x512x1 y2 shapeCasts_S512x1_S1x512x1) 0xFF800000#32 reduces_S1x512x1_S1 (.inl rfl) rfl)
    shapeCasts_S1_S1x1x1) inpos_S1x1x1_p0_0_0

/-- The bound the kernel subtracts in each row: the leaky value of the row's score plus the largest score. -/
def kBound (y1 y2 : FVec Ideal S512x1 .f32) : FVec Ideal S512x1 .f32 :=
  maximumf (addf y1 (broadcast S512x1 (kTop y2)))
    (mulf (broadcast S512x1 (Scalar.ofBits .f32 0x3E4CCCCD#32)) (addf y1 (broadcast S512x1 (kTop y2))))

/-- The unnormalised attention weights of one head, from its two score columns and the mask. -/
def kEx (y1 y2 : FVec Ideal S512x1 .f32) (mk : FVec Ideal S512x512 .bf16) : FVec Ideal S512x512 .bf16 :=
  mulf (exp2 (maximumf
    (addf (broadcastTo S512x512 (truncf .bf16 (mulf (subf y1 (kBound y1 y2))
        (broadcast S512x1 (Named.named κ "log2e" 0x3FB8AA3B#32))) bitsLt_bf16_f32) broadcasts_S512x1_S512x512)
      (broadcastTo S512x512 (truncf .bf16 (mulf (transpose S1x512 [1, 0] y2 transposes_S512x1_p1_0_S1x512)
        (broadcast S1x512 (Named.named κ "log2e" 0x3FB8AA3B#32))) bitsLt_bf16_f32) broadcasts_S1x512_S512x512))
    (addf (broadcastTo S512x512 (truncf .bf16 (mulf (subf (mulf (broadcast S512x1 (Scalar.ofBits .f32 0x3E4CCCCD#32)) y1)
        (kBound y1 y2)) (broadcast S512x1 (Named.named κ "log2e" 0x3FB8AA3B#32))) bitsLt_bf16_f32) broadcasts_S512x1_S512x512)
      (broadcastTo S512x512 (truncf .bf16 (mulf (transpose S1x512 [1, 0] y2 transposes_S512x1_p1_0_S1x512)
        (broadcast S1x512 (Named.named κ "slope_log2e" 0x3E93BB63#32))) bitsLt_bf16_f32) broadcasts_S1x512_S512x512)))) mk

/-- The unnormalised weights of the first head, from the four score columns. -/
def kEx0 (y : FVec Ideal S512x4 .f32) (mk : FVec Ideal S512x512 .bf16) : FVec Ideal S512x512 .bf16 :=
  kEx (extractStridedSlice S512x1 ![0, 0] y slices_S512x4_o0_0_S512x1)
    (extractStridedSlice S512x1 ![0, 2] y slices_S512x4_o0_2_S512x1) mk

/-- The unnormalised weights of the second head. -/
def kEx1 (y : FVec Ideal S512x4 .f32) (mk : FVec Ideal S512x512 .bf16) : FVec Ideal S512x512 .bf16 :=
  kEx (extractStridedSlice S512x1 ![0, 1] y slices_S512x4_o0_1_S512x1)
    (extractStridedSlice S512x1 ![0, 3] y slices_S512x4_o0_3_S512x1) mk

/-- The end of a layer: the direct product plus the two heads side by side plus the bias row, clamped below at zero. -/
def kOut (xw : FVec Ideal S512x256 .f32) (t0 t1 : FVec Ideal S512x128 .f32) (b : FVec Ideal S1x256 .f32) :
    FVec Ideal S512x256 .f32 :=
  maximumf (addf (addf xw (concatenate S512x256 1 [⟨S512x128, t0⟩, ⟨S512x128, t1⟩] concatenates_S512x128_S512x128_S512x256_d1))
    (broadcastTo S512x256 (shapeCast S1x256 b shapeCasts_S1x256_S1x256) broadcasts_S1x256_S512x256))
    (broadcast S512x256 (Scalar.ofBits .f32 0x00000000#32))

/-! ### The stages at 128 input features -/

/-- The four score columns. -/
def kY128 (x : FVec Ideal S512x128 .f32) (mc : FVec Ideal S128x4 .bf16) : FVec Ideal S512x4 .f32 :=
  matmul dot_S512x128_S128x4_S512x4_1_0_0_1_n_n none (truncf .bf16 x bitsLt_bf16_f32)
    (shapeCast S128x4 mc shapeCasts_S128x4_S128x4) (constant S512x4 .f32 0x00000000#32)

/-- The weighted sums of the features, with the sum of the weights as one more column. -/
def kZ128 (ex : FVec Ideal S512x512 .bf16) (x : FVec Ideal S512x128 .f32) : FVec Ideal S512x129 .f32 :=
  matmul dot_S512x512_S512x129_S512x129_1_0_0_1_n_n none ex
    (concatenate S512x129 1 [⟨S512x128, truncf .bf16 x bitsLt_bf16_f32⟩, ⟨S512x1, broadcast S512x1 (Scalar.ofBits .bf16 0x3F80#16)⟩]
      concatenates_S512x128_S512x1_S512x129_d1) (constant S512x129 .f32 0x00000000#32)

/-- One head's result: the weighted sums times its weight matrix, divided by the sum of the weights. -/
def kTap128 (z : FVec Ideal S512x129 .f32) (w : FVec Ideal S1x128x128 .bf16) : FVec Ideal S512x128 .f32 :=
  mulf (broadcastTo S512x128 (divf (broadcast S512x1 (Scalar.ofBits .f32 0x3F800000#32))
      (extractStridedSlice S512x1 ![0, 128] z slices_S512x129_o0_128_S512x1)) broadcasts_S512x1_S512x128)
    (matmul dot_S512x128_S128x128_S512x128_1_0_0_1_n_n none
      (truncf .bf16 (extractStridedSlice S512x128 ![0, 0] z slices_S512x129_o0_0_S512x128) bitsLt_bf16_f32)
      (shapeCast S128x128 w shapeCasts_S1x128x128_S128x128) (constant S512x128 .f32 0x00000000#32))

/-- The features through the first tap's weights, both heads. -/
def kXw128 (x : FVec Ideal S512x128 .f32) (w0 : FVec Ideal S128x256 .bf16) : FVec Ideal S512x256 .f32 :=
  matmul dot_S512x128_S128x256_S512x256_1_0_0_1_n_n none (truncf .bf16 x bitsLt_bf16_f32)
      (shapeCast S128x256 w0 shapeCasts_S128x256_S128x256) (constant S512x256 .f32 0x00000000#32)

/-- The layer. -/
def kLayer128 (x : FVec Ideal S512x128 .f32) (mc : FVec Ideal S128x4 .bf16) (w0 : FVec Ideal S128x256 .bf16)
    (w1 : FVec Ideal S2x128x128 .bf16) (b : FVec Ideal S1x256 .f32) (mk : FVec Ideal S512x512 .bf16) :
    FVec Ideal S512x256 .f32 :=
  kOut (kXw128 x w0)
    (kTap128 (kZ128 (kEx0 (kY128 x mc) mk) x) (extractStridedSlice S1x128x128 ![0, 0, 0]
      (shapeCast S2x128x128 w1 shapeCasts_S2x128x128_S2x128x128) slices_S2x128x128_o0_0_0_S1x128x128))
    (kTap128 (kZ128 (kEx1 (kY128 x mc) mk) x) (extractStridedSlice S1x128x128 ![1, 0, 0]
      (shapeCast S2x128x128 w1 shapeCasts_S2x128x128_S2x128x128) slices_S2x128x128_o1_0_0_S1x128x128)) b

/-! ### The stages at 256 input features -/

/-- The four score columns. -/
def kY256 (x : FVec Ideal S512x256 .f32) (mc : FVec Ideal S256x4 .bf16) : FVec Ideal S512x4 .f32 :=
  matmul dot_S512x256_S256x4_S512x4_1_0_0_1_n_n none (truncf .bf16 x bitsLt_bf16_f32)
    (shapeCast S256x4 mc shapeCasts_S256x4_S256x4) (constant S512x4 .f32 0x00000000#32)

/-- The weighted sums of the features, with the sum of the weights as one more column. -/
def kZ256 (ex : FVec Ideal S512x512 .bf16) (x : FVec Ideal S512x256 .f32) : FVec Ideal S512x257 .f32 :=
  matmul dot_S512x512_S512x257_S512x257_1_0_0_1_n_n none ex
    (concatenate S512x257 1 [⟨S512x256, truncf .bf16 x bitsLt_bf16_f32⟩, ⟨S512x1, broadcast S512x1 (Scalar.ofBits .bf16 0x3F80#16)⟩]
      concatenates_S512x256_S512x1_S512x257_d1) (constant S512x257 .f32 0x00000000#32)

/-- One head's result: the weighted sums times its weight matrix, divided by the sum of the weights. -/
def kTap256 (z : FVec Ideal S512x257 .f32) (w : FVec Ideal S1x256x128 .bf16) : FVec Ideal S512x128 .f32 :=
  mulf (broadcastTo S512x128 (divf (broadcast S512x1 (Scalar.ofBits .f32 0x3F800000#32))
      (extractStridedSlice S512x1 ![0, 256] z slices_S512x257_o0_256_S512x1)) broadcasts_S512x1_S512x128)
    (matmul dot_S512x256_S256x128_S512x128_1_0_0_1_n_n none
      (truncf .bf16 (extractStridedSlice S512x256 ![0, 0] z slices_S512x257_o0_0_S512x256) bitsLt_bf16_f32)
      (shapeCast S256x128 w shapeCasts_S1x256x128_S256x128) (constant S512x128 .f32 0x00000000#32))

/-- The features through the first tap's weights, both heads. -/
def kXw256 (x : FVec Ideal S512x256 .f32) (w0 : FVec Ideal S256x256 .bf16) : FVec Ideal S512x256 .f32 :=
  matmul dot_S512x256_S256x256_S512x256_1_0_0_1_n_n none (truncf .bf16 x bitsLt_bf16_f32)
      (shapeCast S256x256 w0 shapeCasts_S256x256_S256x256) (constant S512x256 .f32 0x00000000#32)

/-- The layer. -/
def kLayer256 (x : FVec Ideal S512x256 .f32) (mc : FVec Ideal S256x4 .bf16) (w0 : FVec Ideal S256x256 .bf16)
    (w1 : FVec Ideal S2x256x128 .bf16) (b : FVec Ideal S1x256 .f32) (mk : FVec Ideal S512x512 .bf16) :
    FVec Ideal S512x256 .f32 :=
  kOut (kXw256 x w0)
    (kTap256 (kZ256 (kEx0 (kY256 x mc) mk) x) (extractStridedSlice S1x256x128 ![0, 0, 0]
      (shapeCast S2x256x128 w1 shapeCasts_S2x256x128_S2x256x128) slices_S2x256x128_o0_0_0_S1x256x128))
    (kTap256 (kZ256 (kEx1 (kY256 x mc) mk) x) (extractStridedSlice S1x256x128 ![1, 0, 0]
      (shapeCast S2x256x128 w1 shapeCasts_S2x256x128_S2x256x128) slices_S2x256x128_o1_0_0_S1x256x128)) b

/-- One batch element's features, nodes first. -/
def kFeat (x : FVec Ideal S1x128x512 .f32) : FVec Ideal S512x128 .f32 :=
  transpose S512x128 [1, 0] (shapeCast S128x512 x shapeCasts_S1x128x512_S128x512) transposes_S128x512_p1_0_S512x128

/-- The network of one batch element: six layers over its features and its two edge masks. -/
def kNet (x : FVec Ideal S512x128 .f32) (m0 m1 : FVec Ideal S512x512 .bf16)
    (x2 : FVec Ideal S128x4 .bf16) (x3 : FVec Ideal S128x256 .bf16) (x4 : FVec Ideal S2x128x128 .bf16) (x5 : FVec Ideal S1x256 .f32)
    (x6 : FVec Ideal S256x4 .bf16) (x7 : FVec Ideal S256x256 .bf16) (x8 : FVec Ideal S2x256x128 .bf16) (x9 : FVec Ideal S1x256 .f32)
    (x10 : FVec Ideal S256x4 .bf16) (x11 : FVec Ideal S256x256 .bf16) (x12 : FVec Ideal S2x256x128 .bf16) (x13 : FVec Ideal S1x256 .f32)
    (x14 : FVec Ideal S256x4 .bf16) (x15 : FVec Ideal S256x256 .bf16) (x16 : FVec Ideal S2x256x128 .bf16) (x17 : FVec Ideal S1x256 .f32)
    (x18 : FVec Ideal S128x4 .bf16) (x19 : FVec Ideal S128x256 .bf16) (x20 : FVec Ideal S2x128x128 .bf16) (x21 : FVec Ideal S1x256 .f32)
    (x22 : FVec Ideal S256x4 .bf16) (x23 : FVec Ideal S256x256 .bf16) (x24 : FVec Ideal S2x256x128 .bf16) (x25 : FVec Ideal S1x256 .f32) :
    FVec Ideal S512x256 .f32 :=
  addf
    (kLayer256
      (addf (kLayer256 (kLayer256 (kLayer128 x x2 x3 x4 x5 m0) x6 x7 x8 x9 m1) x10 x11 x12 x13 m1)
        (kLayer256 (kLayer128 x x2 x3 x4 x5 m0) x22 x23 x24 x25 m1))
      x14 x15 x16 x17 m0)
    (kLayer128 x x18 x19 x20 x21 m0)

/-- The network's result as it is stored: features first. -/
def kStored (y : FVec Ideal S512x256 .f32) : FVec Ideal S1x256x512 .f32 :=
  shapeCast S1x256x512 (transpose S256x512 [1, 0] y transposes_S512x256_p1_0_S256x512) shapeCasts_S256x512_S1x256x512

variable (x0 : Vec Ideal S2x128x512 .f32) (x1 : Vec Ideal S2x2x512x512 .f32)
  (x2 : Vec Ideal S128x4 .bf16) (x3 : Vec Ideal S128x256 .bf16) (x4 : Vec Ideal S2x128x128 .bf16) (x5 : Vec Ideal S1x256 .f32)
  (x6 : Vec Ideal S256x4 .bf16) (x7 : Vec Ideal S256x256 .bf16) (x8 : Vec Ideal S2x256x128 .bf16) (x9 : Vec Ideal S1x256 .f32)
  (x10 : Vec Ideal S256x4 .bf16) (x11 : Vec Ideal S256x256 .bf16) (x12 : Vec Ideal S2x256x128 .bf16) (x13 : Vec Ideal S1x256 .f32)
  (x14 : Vec Ideal S256x4 .bf16) (x15 : Vec Ideal S256x256 .bf16) (x16 : Vec Ideal S2x256x128 .bf16) (x17 : Vec Ideal S1x256 .f32)
  (x18 : Vec Ideal S128x4 .bf16) (x19 : Vec Ideal S128x256 .bf16) (x20 : Vec Ideal S2x128x128 .bf16) (x21 : Vec Ideal S1x256 .f32)
  (x22 : Vec Ideal S256x4 .bf16) (x23 : Vec Ideal S256x256 .bf16) (x24 : Vec Ideal S2x256x128 .bf16) (x25 : Vec Ideal S1x256 .f32)

/-- **What the body writes**: the network of each of the block's two batch elements, each over its own features and masks. -/
theorem out_eq : out0_26 x0 x1 x2 x3 x4 x5 x6 x7 x8 x9 x10 x11 x12 x13 x14 x15 x16 x17 x18 x19 x20 x21 x22 x23 x24 x25
    = View.canon [
      ⟨r0_14, kStored (kNet (kFeat (View.ld x0 r0_1)) (kMask (View.ld x1 r0_3)) (kMask (View.ld x1 r0_5))
      (View.ld x2 r0_6) (View.ld x3 r0_7) (View.ld x4 r0_8) (View.ld x5 r0_9)
      (View.ld x6 r0_10) (View.ld x7 r0_11) (View.ld x8 r0_12) (View.ld x9 r0_9)
      (View.ld x10 r0_10) (View.ld x11 r0_11) (View.ld x12 r0_12) (View.ld x13 r0_9)
      (View.ld x14 r0_10) (View.ld x15 r0_11) (View.ld x16 r0_12) (View.ld x17 r0_9)
      (View.ld x18 r0_6) (View.ld x19 r0_7) (View.ld x20 r0_8) (View.ld x21 r0_9)
      (View.ld x22 r0_10) (View.ld x23 r0_11) (View.ld x24 r0_12) (View.ld x25 r0_9))⟩,
      ⟨r0_13, kStored (kNet (kFeat (View.ld x0 r0_0)) (kMask (View.ld x1 r0_2)) (kMask (View.ld x1 r0_4))
      (View.ld x2 r0_6) (View.ld x3 r0_7) (View.ld x4 r0_8) (View.ld x5 r0_9)
      (View.ld x6 r0_10) (View.ld x7 r0_11) (View.ld x8 r0_12) (View.ld x9 r0_9)
      (View.ld x10 r0_10) (View.ld x11 r0_11) (View.ld x12 r0_12) (View.ld x13 r0_9)
      (View.ld x14 r0_10) (View.ld x15 r0_11) (View.ld x16 r0_12) (View.ld x17 r0_9)
      (View.ld x18 r0_6) (View.ld x19 r0_7) (View.ld x20 r0_8) (View.ld x21 r0_9)
      (View.ld x22 r0_10) (View.ld x23 r0_11) (View.ld x24 r0_12) (View.ld x25 r0_9))⟩] := by
  rfl

end Cert.GraphAttn
-- ==== Proof.Core.lean ====
/-
  THE LAYER AS MATHEMATICS. A graph attention layer over extended reals: what one head's weighted features are when the
  scores are finite and every row of the mask has an edge, however the exponentials are shifted. Nothing here speaks of
  either program.
-/
module

public import Idealize.ShloMosaic.PureOps.Ideal
public import Mathlib.Analysis.SpecialFunctions.Pow.Real

@[expose] public section

noncomputable section

namespace Cert.GraphAttn

open Idealize.ShloMosaic
open scoped BigOperators

/-- An extended real that is a real number. -/
def IsFin (x : EReal) : Prop := x ≠ ⊥ ∧ x ≠ ⊤

/-- A real number is finite. -/
theorem IsFin.coe (r : ℝ) : IsFin (r : EReal) := ⟨EReal.coe_ne_bot r, EReal.coe_ne_top r⟩

/-- A finite value is the coercion of its real part. -/
theorem IsFin.eq {x : EReal} (h : IsFin x) : x = (x.toReal : EReal) := (EReal.coe_toReal h.2 h.1).symm

/-- Products of finite numbers are finite. -/
theorem IsFin.mul {x y : EReal} (hx : IsFin x) (hy : IsFin y) : IsFin (x * y) := by
  rw [hx.eq, hy.eq, ← EReal.coe_mul]; exact IsFin.coe _

/-- Sums of two finite numbers are finite. -/
theorem IsFin.add {x y : EReal} (hx : IsFin x) (hy : IsFin y) : IsFin (x + y) := by
  rw [hx.eq, hy.eq, ← EReal.coe_add]; exact IsFin.coe _

/-- The larger of two finite numbers is finite. -/
theorem IsFin.max {x y : EReal} (hx : IsFin x) (hy : IsFin y) : IsFin (max x y) := by
  rcases max_choice x y with h | h <;> rw [h] <;> assumption

/-- A finite sum of reals, coerced. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite numbers is finite. -/
theorem IsFin.sum {ι : Type*} (s : Finset ι) (f : ι → EReal) (h : ∀ i ∈ s, IsFin (f i)) : IsFin (∑ i ∈ s, f i) := by
  have : ∑ i ∈ s, f i = ((∑ i ∈ s, (f i).toReal : ℝ) : EReal) := by
    rw [coe_sum]; exact Finset.sum_congr rfl fun i hi => (h i hi).eq
  rw [this]; exact IsFin.coe _

/-- A nonnegative real factor goes into a finite sum of extended reals. -/
theorem coe_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The fold of `max` from `⊥` over a nonempty finite set of finite values is finite; values at `⊥` may lie among them. -/
theorem fin_fold_max {ι : Type*} (s : Finset ι) (f : ι → EReal) (htop : ∀ i ∈ s, f i ≠ ⊤) (hne : ∃ i ∈ s, f i ≠ ⊥) :
    IsFin (s.fold max ⊥ f) := by
  constructor
  · obtain ⟨i, hi, hb⟩ := hne
    intro h
    have : f i ≤ s.fold max ⊥ f := (Finset.le_fold_max (f i)).2 (Or.inr ⟨i, hi, le_rfl⟩)
    rw [h] at this
    exact hb (le_bot_iff.1 this)
  · apply ne_of_lt
    rw [Finset.fold_max_lt]
    exact ⟨bot_lt_top, fun i hi => lt_top_iff_ne_top.2 (htop i hi)⟩

/-! ### The scores -/

/-- The slope of the leaky part: the single-precision number nearest 0.2. -/
def slope : ℝ := 13421773 / 67108864

/-- The leaky linear unit. -/
def leaky (t : ℝ) : ℝ := max t (slope * t)

/-- The leaky relu leaves a nonnegative number as it is. -/
theorem leaky_of_nonneg {t : ℝ} (h : 0 ≤ t) : leaky t = t := by
  unfold leaky slope; apply max_eq_left; nlinarith

/-- The leaky relu scales a negative number by the slope. -/
theorem leaky_of_neg {t : ℝ} (h : t < 0) : leaky t = slope * t := by
  unfold leaky slope; apply max_eq_right; nlinarith

/-- The reference's leaky unit, a choice on the sign, over a real. -/
theorem leaky_select (t : ℝ) :
    (if (0 : EReal) ≤ (t : EReal) then (t : EReal) else (slope : EReal) * (t : EReal)) = (leaky t : EReal) := by
  split_ifs with h
  · rw [leaky_of_nonneg (by exact_mod_cast h)]
  · rw [leaky_of_neg (by simpa using h), EReal.coe_mul]

/-- The kernel's exponential: a power of two whose exponent carries the logarithm's factor, the larger of two lines. -/
theorem exp2_entry (a c B : ℝ) :
    Ideal.exp2 (max (((a : EReal) - B) * ((Real.log 2)⁻¹ : ℝ) + c * ((Real.log 2)⁻¹ : ℝ))
        (((slope : EReal) * a - B) * ((Real.log 2)⁻¹ : ℝ) + c * (slope * (Real.log 2)⁻¹ : ℝ)))
      = (Real.exp (leaky (a + c) - B) : EReal) := by
  have hl : 0 < Real.log 2 := Real.log_pos one_lt_two
  have e1 : ((a : EReal) - B) * ((Real.log 2)⁻¹ : ℝ) + c * ((Real.log 2)⁻¹ : ℝ)
      = (((a + c - B) * (Real.log 2)⁻¹ : ℝ) : EReal) := by
    rw [← EReal.coe_sub, ← EReal.coe_mul, ← EReal.coe_mul, ← EReal.coe_add]; congr 1; ring
  have e2 : ((slope : EReal) * a - B) * ((Real.log 2)⁻¹ : ℝ) + c * (slope * (Real.log 2)⁻¹ : ℝ)
      = (((slope * (a + c) - B) * (Real.log 2)⁻¹ : ℝ) : EReal) := by
    rw [← EReal.coe_mul, ← EReal.coe_sub, ← EReal.coe_mul, ← EReal.coe_mul, ← EReal.coe_add]; congr 1; ring
  rw [e1, e2, ← EReal.coe_strictMono.monotone.map_max, Ideal.exp2_coe]
  congr 1
  have e3 : max ((a + c - B) * (Real.log 2)⁻¹) ((slope * (a + c) - B) * (Real.log 2)⁻¹)
      = (leaky (a + c) - B) * (Real.log 2)⁻¹ := by
    rw [← max_mul_of_nonneg _ _ (inv_nonneg.2 hl.le), max_sub_sub_right, leaky]
  rw [e3]
  rw [Real.rpow_eq_pow, Real.rpow_def_of_pos two_pos]
  congr 1
  field_simp

/-! ### One head -/

variable {N g : ℕ}

/-- A row's unnormalised weights: the exponential of the shifted score at an edge, zero elsewhere. -/
def expW (w : Fin N → ℝ) (m : Fin N → Prop) (B : ℝ) (j : Fin N) : ℝ :=
  open Classical in if m j then Real.exp (w j - B) else 0

/-- Another shift changes all weights of the row by one factor. -/
theorem expW_shift (w : Fin N → ℝ) (m : Fin N → Prop) (B C : ℝ) (j : Fin N) :
    expW w m C j = Real.exp (B - C) * expW w m B j := by
  unfold expW; split_ifs
  · rw [← Real.exp_add]; congr 1; ring
  · simp

/-- A weight is nonnegative. -/
theorem expW_nonneg (w : Fin N → ℝ) (m : Fin N → Prop) (B : ℝ) (j : Fin N) : 0 ≤ expW w m B j := by
  unfold expW; split_ifs
  · exact (Real.exp_pos _).le
  · exact le_rfl

/-- The weights of a row with an edge have a positive sum. -/
theorem expW_sum_pos (w : Fin N → ℝ) (m : Fin N → Prop) (B : ℝ) (hm : ∃ j, m j) : 0 < ∑ j, expW w m B j := by
  obtain ⟨j, hj⟩ := hm
  refine Finset.sum_pos' (fun i _ => expW_nonneg w m B i) ⟨j, Finset.mem_univ j, ?_⟩
  rw [expW, if_pos hj]; exact Real.exp_pos _

/-- A row's attention: the weights over their sum. -/
def att (w : Fin N → ℝ) (m : Fin N → Prop) (j : Fin N) : ℝ := expW w m 0 j / ∑ i, expW w m 0 i

/-- The attention does not depend on the shift. -/
theorem att_eq (w : Fin N → ℝ) (m : Fin N → Prop) (B : ℝ) (hm : ∃ j, m j) (j : Fin N) :
    att w m j = expW w m B j / ∑ i, expW w m B i := by
  have h : ∑ i, expW w m B i = Real.exp (0 - B) * ∑ i, expW w m 0 i := by
    rw [Finset.mul_sum]; exact Finset.sum_congr rfl fun i _ => expW_shift w m 0 B i
  rw [att, h, expW_shift w m 0 B j, mul_div_mul_left _ _ (Real.exp_pos _).ne']

/-- The softmax of the reference: the exponentials of the scores, `⊥` off the edges, over their sum. -/
theorem softmax_entry (w : Fin N → ℝ) (m : Fin N → Prop) (B : ℝ) (hm : ∃ j, m j) (j : Fin N) :
    Ideal.div (expW w m B j : EReal) (∑ i, (expW w m B i : EReal)) = (att w m j : EReal) := by
  rw [← coe_sum, Ideal.div_coe (expW_sum_pos w m B hm).ne', ← EReal.coe_mul, att_eq w m B hm, mul_one_div]

/-- One exponential of the reference. -/
theorem exp_entry (w : Fin N → ℝ) (m : Fin N → Prop) (B : ℝ) (j : Fin N) :
    Ideal.exp ((open Classical in if m j then (w j : EReal) else ⊥) - (B : EReal)) = (expW w m B j : EReal) := by
  unfold expW; split_ifs
  · rw [← EReal.coe_sub, Ideal.exp_coe]
  · rw [EReal.bot_sub]; simp

/-- One weight of the kernel: the exponential times the mask's 0 or 1. -/
theorem mask_entry (w : Fin N → ℝ) (m : Fin N → Prop) (B : ℝ) (j : Fin N) :
    (Real.exp (w j - B) : EReal) * (open Classical in if m j then (1 : EReal) else 0) = (expW w m B j : EReal) := by
  unfold expW; split_ifs <;> simp

/-- **One head of the kernel is the head of the reference**: the sum of the weights divides after the product with the
    weight matrix there, before it here; the weight matrix may hold any extended reals. -/
theorem head_eq (w : Fin N → ℝ) (m : Fin N → Prop) (B : ℝ) (hm : ∃ j, m j) (X : Fin N → Fin g → ℝ) (W : Fin g → EReal) :
    Ideal.div 1 (∑ j, (expW w m B j : EReal)) * ∑ c, (∑ j, (expW w m B j : EReal) * (X j c : EReal)) * W c
      = ∑ c, W c * ((∑ j, X j c * att w m j : ℝ) : EReal) := by
  have hD := expW_sum_pos w m B hm
  rw [← coe_sum, Ideal.div_coe hD.ne', one_mul, coe_mul_sum _ (one_div_nonneg.2 hD.le)]
  refine Finset.sum_congr rfl fun c _ => ?_
  rw [mul_comm (W c), ← mul_assoc]
  congr 1
  have : (∑ j, (expW w m B j : EReal) * (X j c : EReal)) = ((∑ j, expW w m B j * X j c : ℝ) : EReal) := by
    rw [coe_sum]; exact Finset.sum_congr rfl fun j _ => (EReal.coe_mul _ _).symm
  rw [this, ← EReal.coe_mul, Finset.mul_sum]
  congr 1
  refine Finset.sum_congr rfl fun j _ => ?_
  rw [att_eq w m B hm]; ring

/-! ### The layer -/

/-- A node's score: its features times one half of the mixer's row. -/
def score (X : Fin N → Fin g → EReal) (a : Fin g → EReal) (n : Fin N) : ℝ := ∑ c, (X n c).toReal * (a c).toReal

/-- The score as the programs compute it, the features and the mixer being finite. -/
theorem score_eq (X : Fin N → Fin g → EReal) (a : Fin g → EReal) (hX : ∀ n c, IsFin (X n c)) (ha : ∀ c, IsFin (a c))
    (n : Fin N) : ∑ c, X n c * a c = (score X a n : EReal) := by
  rw [score, coe_sum]
  refine Finset.sum_congr rfl fun c _ => ?_
  rw [EReal.coe_mul, ← (hX n c).eq, ← (ha c).eq]

/-- The leaky scores of row `n` against every node. -/
def row (X : Fin N → Fin g → EReal) (a₁ a₂ : Fin g → EReal) (n : Fin N) (j : Fin N) : ℝ := leaky (score X a₁ n + score X a₂ j)

/-- One output feature of one head at one node: the direct product, the product with the attended features and the
    bias, clamped below at zero. -/
def head (X : Fin N → Fin g → EReal) (a₁ a₂ : Fin g → EReal) (w₀ w₁ : Fin g → EReal) (b : EReal) (mk : Fin N → Fin N → Prop)
    (n : Fin N) : EReal :=
  max ((∑ c, w₀ c * X n c) + (∑ c, w₁ c * ((∑ j, (X j c).toReal * att (row X a₁ a₂ n) (mk n) j : ℝ) : EReal)) + b) 0

/-- The kernel's order of the same operations, whatever it shifted the row's exponentials by. -/
theorem head_of_kernel (X : Fin N → Fin g → EReal) (a₁ a₂ : Fin g → EReal) (w₀ w₁ : Fin g → EReal) (b : EReal)
    (mk : Fin N → Fin N → Prop) (hX : ∀ n c, IsFin (X n c)) (n : Fin N) (hm : ∃ j, mk n j) (B : ℝ) (e : Fin N → EReal)
    (he : ∀ j, e j = (expW (row X a₁ a₂ n) (mk n) B j : EReal)) :
    max ((∑ c, X n c * w₀ c) + Ideal.div 1 (∑ j, e j) * (∑ c, (∑ j, e j * X j c) * w₁ c) + b) 0
      = head X a₁ a₂ w₀ w₁ b mk n := by
  have h := head_eq (row X a₁ a₂ n) (mk n) B hm (fun j c => (X j c).toReal) w₁
  simp only [← (hX _ _).eq, ← he] at h
  rw [h, head]
  simp only [mul_comm (X n _)]

/-- The reference's order of the same operations, whatever it shifted the row's exponentials by. -/
theorem head_of_reference (X : Fin N → Fin g → EReal) (a₁ a₂ : Fin g → EReal) (w₀ w₁ : Fin g → EReal) (b : EReal)
    (mk : Fin N → Fin N → Prop) (hX : ∀ n c, IsFin (X n c)) (n : Fin N) (hm : ∃ j, mk n j) (B : ℝ) (e : Fin N → EReal)
    (he : ∀ j, e j = (expW (row X a₁ a₂ n) (mk n) B j : EReal)) :
    max ((∑ c, w₀ c * X n c) + (∑ c, w₁ c * ∑ j, X j c * Ideal.div (e j) (∑ i, e i)) + b) 0
      = head X a₁ a₂ w₀ w₁ b mk n := by
  have h : ∀ c, ∑ j, X j c * Ideal.div (e j) (∑ i, e i)
      = ((∑ j, (X j c).toReal * att (row X a₁ a₂ n) (mk n) j : ℝ) : EReal) := fun c => by
    rw [coe_sum]
    refine Finset.sum_congr rfl fun j _ => ?_
    simp only [he]
    rw [softmax_entry _ _ _ hm, EReal.coe_mul, ← (hX j c).eq]
  simp only [h]; rfl

/-- The head of an output feature. -/
def hd (q : Fin 256) : Fin 2 := ⟨q.val / 128, by omega⟩
/-- An output feature within its head. -/
def ft (q : Fin 256) : Fin 128 := ⟨q.val % 128, by omega⟩

/-- **The layer**: the two heads side by side. `A p h` is half `h` of head `p`'s mixer row, `W t p` its weight matrix of
    tap `t`, `b` the bias. -/
def layer (X : Fin N → Fin g → EReal) (A : Fin 2 → Fin 2 → Fin g → EReal) (W : Fin 2 → Fin 2 → Fin g → Fin 128 → EReal)
    (b : Fin 128 → EReal) (mk : Fin N → Fin N → Prop) (n : Fin N) (q : Fin 256) : EReal :=
  head X (A (hd q) 0) (A (hd q) 1) (fun c => W 0 (hd q) c (ft q)) (fun c => W 1 (hd q) c (ft q)) (b (ft q)) mk n

/-- With finite features, weights and bias the layer's values are finite. -/
theorem layer_fin (X : Fin N → Fin g → EReal) (A : Fin 2 → Fin 2 → Fin g → EReal) (W : Fin 2 → Fin 2 → Fin g → Fin 128 → EReal)
    (b : Fin 128 → EReal) (mk : Fin N → Fin N → Prop) (hX : ∀ n c, IsFin (X n c)) (hW : ∀ t p c f, IsFin (W t p c f))
    (hb : ∀ f, IsFin (b f)) (n : Fin N) (q : Fin 256) : IsFin (layer X A W b mk n q) :=
  IsFin.max (((IsFin.sum _ _ fun c _ => (hW _ _ _ _).mul (hX _ _)).add
    (IsFin.sum _ _ fun c _ => (hW _ _ _ _).mul (IsFin.coe _))).add (hb _)) (IsFin.coe 0)

end Cert.GraphAttn
-- ==== Proof.Consts.lean ====
/-
  THE CONSTANTS both programs print, as the reals they are, and the edge predicate both masks decide.
-/
module

public import proofs.«01_k».proof.Proof.Core

@[expose] public section

noncomputable section

namespace Cert.GraphAttn

open Idealize.ShloMosaic

/-- The leaky slope's pattern. -/
theorem ofBits_slope : Ideal.ofBits .f32 0x3E4CCCCD#32 = (slope : EReal) := by
  simp [Ideal.ofBits, Ideal.ieee, slope, -EReal.coe_mul]; norm_num

/-- The pattern of minus infinity. -/
theorem ofBits_bot : Ideal.ofBits .f32 0xFF800000#32 = ⊥ := by
  simp [Ideal.ofBits, Ideal.ieee]

/-- An edge: an adjacency entry above 1e-9 in absolute value. -/
def Edge (s : EReal) : Prop := Ideal.ofBits .f32 0x3089705F#32 < max s (-s)

/-- Channel `c` of half `h` of a mixer over 128 features. -/
def half128 (h : Fin 2) (c : Fin 128) : Fin 256 := ⟨h.val * 128 + c.val, by omega⟩

/-- Channel `c` of half `h` of a mixer over 256 features. -/
def half256 (h : Fin 2) (c : Fin 256) : Fin 512 := ⟨h.val * 256 + c.val, by omega⟩

end Cert.GraphAttn
-- ==== Proof.KRead.lean ====
/-
  THE KERNEL'S LAYER READ AT AN INDEX. Each stage of Proof/KLayer.lean as a scalar expression, and the layer as the
  mathematical layer of Proof/Core.lean.
-/
module

public import proofs.«01_k».proof.Proof.KLayer
public import proofs.«01_k».proof.Proof.Core
public import proofs.«01_k».proof.Proof.Consts
public import Idealize.ShloMosaic.Lib.Pointwise

@[expose] public section

set_option maxRecDepth 16384

noncomputable section

namespace Cert.GraphAttn

open Cert.KernelIdeal Cert.KernelIdeal.Gen Idealize.ShloMosaic

/-! ### The named constants -/

/-- The named constant `log2e` is 1 / log 2. -/
theorem named_log2e : (Named.named κ "log2e" 0x3FB8AA3B#32 : Ideal .f32) = (((Real.log 2)⁻¹ : ℝ) : EReal) :=
  IdealRules.named_const.ideal_named_scalar _ _ _ _ rfl

/-- The named constant `slope_log2e` is the slope over log 2. -/
theorem named_slope_log2e : (Named.named κ "slope_log2e" 0x3E93BB63#32 : Ideal .f32) = ((slope * (Real.log 2)⁻¹ : ℝ) : EReal) :=
  IdealRules.named_const.ideal_named_scalar _ _ _ _ rfl

/-! ### The stages -/

open Classical in
/-- The kernel's mask is one on an edge and zero elsewhere. -/
theorem kMask_at (s : FVec Ideal S1x1x512x512 .f32) (n j : Fin 512) :
    kMask s (ix2 n j) = if Edge (s (ix4 0 0 n j)) then (1 : EReal) else 0 := by
  have e : kMask s (ix2 n j) = FloatOps.sitofp (F := Ideal) .f32
      (BitVec.setWidth 32 (BitVec.ofBool (decide (Edge (s (ix4 0 0 n j)))))) := by
    unfold kMask
    pointwise
    refine congrArg (fun b => FloatOps.sitofp (F := Ideal) .f32 (BitVec.setWidth 32 (BitVec.ofBool b))) ?_
    exact decide_eq_decide.2 Iff.rfl
  rw [e]
  by_cases h : Edge (s (ix4 0 0 n j)) <;> simp [h, FloatOps.sitofp]

/-- The largest score of a column of finite scores is finite. -/
theorem kTop_fin (y2 : FVec Ideal S512x1 .f32) (h : ∀ n, IsFin (y2 (ix2 n 0))) : IsFin (kTop y2) := by
  have e : kTop y2 = Finset.fold max (Ideal.ofBits .f32 0xFF800000#32) (fun x : Fin 512 × Fin 1 => y2 (ix2 x.1 0)) Finset.univ := by
    unfold kTop
    pointwise
  rw [e, ofBits_bot]
  exact fin_fold_max _ _ (fun i _ => (h i.1).2) ⟨(0, 0), Finset.mem_univ _, (h 0).1⟩

/-- The weights of one head, its two score columns finite: each row's exponentials under some shift, cut by the mask. -/
theorem kEx_at (y1 y2 : FVec Ideal S512x1 .f32) (mk : FVec Ideal S512x512 .bf16) (s1 s2 : Fin 512 → ℝ) (m : Fin 512 → Fin 512 → Prop)
    (h1 : ∀ n, y1 (ix2 n 0) = (s1 n : EReal)) (h2 : ∀ n, y2 (ix2 n 0) = (s2 n : EReal))
    (hm : ∀ n j, mk (ix2 n j) = open Classical in if m n j then (1 : EReal) else 0) (n : Fin 512) :
    ∃ B : ℝ, ∀ j, kEx y1 y2 mk (ix2 n j) = (expW (fun j => leaky (s1 n + s2 j)) (m n) B j : EReal) := by
  have hT : IsFin (kTop y2) := kTop_fin y2 fun n => h2 n ▸ IsFin.coe _
  have hB : IsFin (max (y1 (ix2 n 0) + kTop y2) (slope * (y1 (ix2 n 0) + kTop y2))) := by
    rw [h1]; exact ((IsFin.coe _).add hT).max ((IsFin.coe _).mul ((IsFin.coe _).add hT))
  refine ⟨(max (y1 (ix2 n 0) + kTop y2) (slope * (y1 (ix2 n 0) + kTop y2))).toReal, fun j => ?_⟩
  · have e : kEx y1 y2 mk (ix2 n j) = Ideal.exp2
        (max ((y1 (ix2 n 0) - max (y1 (ix2 n 0) + kTop y2) (Ideal.ofBits .f32 0x3E4CCCCD#32 * (y1 (ix2 n 0) + kTop y2)))
              * (Named.named κ "log2e" 0x3FB8AA3B#32 : Ideal .f32) + y2 (ix2 j 0) * (Named.named κ "log2e" 0x3FB8AA3B#32 : Ideal .f32))
          ((Ideal.ofBits .f32 0x3E4CCCCD#32 * y1 (ix2 n 0)
              - max (y1 (ix2 n 0) + kTop y2) (Ideal.ofBits .f32 0x3E4CCCCD#32 * (y1 (ix2 n 0) + kTop y2)))
            * (Named.named κ "log2e" 0x3FB8AA3B#32 : Ideal .f32) + y2 (ix2 j 0) * (Named.named κ "slope_log2e" 0x3E93BB63#32 : Ideal .f32))) * mk (ix2 n j) := by
      unfold kEx kBound
      pointwise
      rfl
    rw [e, ofBits_slope, named_log2e, named_slope_log2e, hB.eq, h1, h2, hm, exp2_entry]
    exact mask_entry (fun j => leaky (s1 n + s2 j)) (m n) _ j

/-- Where the column of half `h` of head `p` lies among the four score columns. -/
def col (p h : Fin 2) : Fin 4 := ⟨2 * h.val + p.val, by omega⟩

/-- The first head's weights of a row: the exponentials of its scores under some shift, cut by the mask. -/
theorem kEx0_eq (y : FVec Ideal S512x4 .f32) (mk : FVec Ideal S512x512 .bf16) (s : Fin 2 → Fin 2 → Fin 512 → ℝ)
    (m : Fin 512 → Fin 512 → Prop) (hs : ∀ p h n, y (ix2 n (col p h)) = (s p h n : EReal))
    (hm : ∀ n j, mk (ix2 n j) = open Classical in if m n j then (1 : EReal) else 0) (n : Fin 512) :
    ∃ B : ℝ, ∀ j, kEx0 y mk (ix2 n j) = (expW (fun j => leaky (s 0 0 n + s 0 1 j)) (m n) B j : EReal) := by
  refine kEx_at _ _ mk (s 0 0) (s 0 1) m (fun n => ?_) (fun n => ?_) hm n
  · rw [← hs]; pointwise; rfl
  · rw [← hs]; pointwise; rfl

/-- The second head's weights of a row: the exponentials of its scores under some shift, cut by the mask. -/
theorem kEx1_eq (y : FVec Ideal S512x4 .f32) (mk : FVec Ideal S512x512 .bf16) (s : Fin 2 → Fin 2 → Fin 512 → ℝ)
    (m : Fin 512 → Fin 512 → Prop) (hs : ∀ p h n, y (ix2 n (col p h)) = (s p h n : EReal))
    (hm : ∀ n j, mk (ix2 n j) = open Classical in if m n j then (1 : EReal) else 0) (n : Fin 512) :
    ∃ B : ℝ, ∀ j, kEx1 y mk (ix2 n j) = (expW (fun j => leaky (s 1 0 n + s 1 1 j)) (m n) B j : EReal) := by
  refine kEx_at _ _ mk (s 1 0) (s 1 1) m (fun n => ?_) (fun n => ?_) hm n
  · rw [← hs]; pointwise; rfl
  · rw [← hs]; pointwise; rfl

/-- The kernel's layer at an index: the sum of the direct part, the head's diffused part and the bias, cut below at zero. -/
theorem kOut_at (xw : FVec Ideal S512x256 .f32) (t0 t1 : FVec Ideal S512x128 .f32) (b : FVec Ideal S1x256 .f32) (n : Fin 512) (q : Fin 256) :
    kOut xw t0 t1 b (ix2 n q) = max (xw (ix2 n q) + (if hd q = 0 then t0 (ix2 n (ft q)) else t1 (ix2 n (ft q))) + b (ix2 0 q)) 0 := by
  unfold kOut
  pointwise
  by_cases h : q.val < 128
  · have h0 : hd q = 0 := Fin.ext (by simp only [hd, Fin.val_zero]; omega)
    have hf : (⟨q.val, h⟩ : Fin 128) = ft q := Fin.ext (by simp only [ft]; omega)
    rw [dif_pos h, if_pos h0, hf]
  · have h0 : hd q ≠ 0 := fun e => h (by have := congrArg Fin.val e; simp only [hd, Fin.val_zero] at this; omega)
    have hf : (⟨q.val - 128, by omega⟩ : Fin 128) = ft q := Fin.ext (by simp only [ft]; omega)
    rw [dif_neg h, if_neg h0, hf]

/-! ### The layer at 128 input features -/

/-- The four score columns are the products of the features with the mixer. -/
theorem kY128_at (x : FVec Ideal S512x128 .f32) (mc : FVec Ideal S128x4 .bf16) (n : Fin 512) (k : Fin 4) :
    kY128 x mc (ix2 n k) = ∑ c, x (ix2 n c) * mc (ix2 c k) := by
  unfold kY128
  pointwise

/-- The diffused part of one head: the weighted features times the second tap, over the sum of the weights. -/
theorem kTap128_at (ex : FVec Ideal S512x512 .bf16) (x : FVec Ideal S512x128 .f32) (w : FVec Ideal S1x128x128 .bf16)
    (n : Fin 512) (f : Fin 128) :
    kTap128 (kZ128 ex x) w (ix2 n f)
      = Ideal.div 1 (∑ j, ex (ix2 n j)) * ∑ c, (∑ j, ex (ix2 n j) * x (ix2 j c)) * w (ix3 0 c f) := by
  unfold kTap128 kZ128
  pointwise

/-- The kernel's layer is the mathematical layer of the parameters its arrays hold. -/
theorem kLayer128_at (x : FVec Ideal S512x128 .f32) (mc : FVec Ideal S128x4 .bf16) (w0 : FVec Ideal S128x256 .bf16)
    (w1 : FVec Ideal S2x128x128 .bf16) (b : FVec Ideal S1x256 .f32) (mk : FVec Ideal S512x512 .bf16)
    (X : Fin 512 → Fin 128 → EReal) (A : Fin 2 → Fin 2 → Fin 128 → EReal) (W : Fin 2 → Fin 2 → Fin 128 → Fin 128 → EReal)
    (bb : Fin 128 → EReal) (m : Fin 512 → Fin 512 → Prop)
    (hx : ∀ n c, x (ix2 n c) = X n c) (hmc : ∀ p h c, mc (ix2 c (col p h)) = A p h c)
    (hw0 : ∀ c q, w0 (ix2 c q) = W 0 (hd q) c (ft q)) (hw1 : ∀ p c f, w1 (ix3 p c f) = W 1 p c f)
    (hb : ∀ q, b (ix2 0 q) = bb (ft q)) (hmk : ∀ n j, mk (ix2 n j) = open Classical in if m n j then (1 : EReal) else 0)
    (hX : ∀ n c, IsFin (X n c)) (hA : ∀ p h c, IsFin (A p h c)) (hm : ∀ n, ∃ j, m n j) (n : Fin 512) (q : Fin 256) :
    kLayer128 x mc w0 w1 b mk (ix2 n q) = layer X A W bb m n q := by
  have hs : ∀ p h n, kY128 x mc (ix2 n (col p h)) = (score X (A p h) n : EReal) := fun p h n => by
    rw [kY128_at, ← score_eq X (A p h) hX (hA p h)]
    simp only [hx, hmc]
  have hxw : kXw128 x w0 (ix2 n q) = ∑ c, x (ix2 n c) * w0 (ix2 c q) := by
    unfold kXw128
    pointwise
  unfold kLayer128
  rw [kOut_at, layer]
  obtain h | h : hd q = 0 ∨ hd q = 1 := by omega
  · obtain ⟨B, hB⟩ := kEx0_eq _ mk (fun p h => score X (A p h)) m hs hmk n
    have hw : ∀ c, extractStridedSlice S1x128x128 ![0, 0, 0] (shapeCast S2x128x128 w1 shapeCasts_S2x128x128_S2x128x128)
        slices_S2x128x128_o0_0_0_S1x128x128 (ix3 0 c (ft q)) = W 1 0 c (ft q) := fun c => by
      rw [← hw1]
      pointwise
    rw [if_pos h, kTap128_at, h, hxw, hb]
    simp only [hx, hw0, hw, h]
    exact head_of_kernel X (A 0 0) (A 0 1) _ _ _ m hX n (hm n) B _ hB
  · obtain ⟨B, hB⟩ := kEx1_eq _ mk (fun p h => score X (A p h)) m hs hmk n
    have hw : ∀ c, extractStridedSlice S1x128x128 ![1, 0, 0] (shapeCast S2x128x128 w1 shapeCasts_S2x128x128_S2x128x128)
        slices_S2x128x128_o1_0_0_S1x128x128 (ix3 0 c (ft q)) = W 1 1 c (ft q) := fun c => by
      rw [← hw1]
      pointwise
    rw [if_neg (by rw [h]; decide), kTap128_at, h, hxw, hb]
    simp only [hx, hw0, hw, h]
    exact head_of_kernel X (A 1 0) (A 1 1) _ _ _ m hX n (hm n) B _ hB

/-! ### The layer at 256 input features -/

/-- The four score columns are the products of the features with the mixer. -/
theorem kY256_at (x : FVec Ideal S512x256 .f32) (mc : FVec Ideal S256x4 .bf16) (n : Fin 512) (k : Fin 4) :
    kY256 x mc (ix2 n k) = ∑ c, x (ix2 n c) * mc (ix2 c k) := by
  unfold kY256
  pointwise

/-- The diffused part of one head: the weighted features times the second tap, over the sum of the weights. -/
theorem kTap256_at (ex : FVec Ideal S512x512 .bf16) (x : FVec Ideal S512x256 .f32) (w : FVec Ideal S1x256x128 .bf16)
    (n : Fin 512) (f : Fin 128) :
    kTap256 (kZ256 ex x) w (ix2 n f)
      = Ideal.div 1 (∑ j, ex (ix2 n j)) * ∑ c, (∑ j, ex (ix2 n j) * x (ix2 j c)) * w (ix3 0 c f) := by
  unfold kTap256 kZ256
  pointwise

/-- The kernel's layer is the mathematical layer of the parameters its arrays hold. -/
theorem kLayer256_at (x : FVec Ideal S512x256 .f32) (mc : FVec Ideal S256x4 .bf16) (w0 : FVec Ideal S256x256 .bf16)
    (w1 : FVec Ideal S2x256x128 .bf16) (b : FVec Ideal S1x256 .f32) (mk : FVec Ideal S512x512 .bf16)
    (X : Fin 512 → Fin 256 → EReal) (A : Fin 2 → Fin 2 → Fin 256 → EReal) (W : Fin 2 → Fin 2 → Fin 256 → Fin 128 → EReal)
    (bb : Fin 128 → EReal) (m : Fin 512 → Fin 512 → Prop)
    (hx : ∀ n c, x (ix2 n c) = X n c) (hmc : ∀ p h c, mc (ix2 c (col p h)) = A p h c)
    (hw0 : ∀ c q, w0 (ix2 c q) = W 0 (hd q) c (ft q)) (hw1 : ∀ p c f, w1 (ix3 p c f) = W 1 p c f)
    (hb : ∀ q, b (ix2 0 q) = bb (ft q)) (hmk : ∀ n j, mk (ix2 n j) = open Classical in if m n j then (1 : EReal) else 0)
    (hX : ∀ n c, IsFin (X n c)) (hA : ∀ p h c, IsFin (A p h c)) (hm : ∀ n, ∃ j, m n j) (n : Fin 512) (q : Fin 256) :
    kLayer256 x mc w0 w1 b mk (ix2 n q) = layer X A W bb m n q := by
  have hs : ∀ p h n, kY256 x mc (ix2 n (col p h)) = (score X (A p h) n : EReal) := fun p h n => by
    rw [kY256_at, ← score_eq X (A p h) hX (hA p h)]
    simp only [hx, hmc]
  have hxw : kXw256 x w0 (ix2 n q) = ∑ c, x (ix2 n c) * w0 (ix2 c q) := by
    unfold kXw256
    pointwise
  unfold kLayer256
  rw [kOut_at, layer]
  obtain h | h : hd q = 0 ∨ hd q = 1 := by omega
  · obtain ⟨B, hB⟩ := kEx0_eq _ mk (fun p h => score X (A p h)) m hs hmk n
    have hw : ∀ c, extractStridedSlice S1x256x128 ![0, 0, 0] (shapeCast S2x256x128 w1 shapeCasts_S2x256x128_S2x256x128)
        slices_S2x256x128_o0_0_0_S1x256x128 (ix3 0 c (ft q)) = W 1 0 c (ft q) := fun c => by
      rw [← hw1]
      pointwise
    rw [if_pos h, kTap256_at, h, hxw, hb]
    simp only [hx, hw0, hw, h]
    exact head_of_kernel X (A 0 0) (A 0 1) _ _ _ m hX n (hm n) B _ hB
  · obtain ⟨B, hB⟩ := kEx1_eq _ mk (fun p h => score X (A p h)) m hs hmk n
    have hw : ∀ c, extractStridedSlice S1x256x128 ![1, 0, 0] (shapeCast S2x256x128 w1 shapeCasts_S2x256x128_S2x256x128)
        slices_S2x256x128_o1_0_0_S1x256x128 (ix3 0 c (ft q)) = W 1 1 c (ft q) := fun c => by
      rw [← hw1]
      pointwise
    rw [if_neg (by rw [h]; decide), kTap256_at, h, hxw, hb]
    simp only [hx, hw0, hw, h]
    exact head_of_kernel X (A 1 0) (A 1 1) _ _ _ m hX n (hm n) B _ hB

end Cert.GraphAttn
-- ==== Proof.Prep.lean ====
/-
  WHAT THE HOST PREPARES. Before the launch the host lays each layer's parameters out anew: the mixer's halves side by
    side, the first tap's weights of the two heads side by side, the second tap's weights by head, the bias twice.
  Here the four layouts are written once, read at an index, and found in the arrays that the launch is given.
-/
module

public import proofs.«01_k».proof.Proof.KRead
public import Idealize.ShloMosaic.Lib.StableHlo.RunRead
public import Idealize.ShloMosaic.Lib.Pointwise

@[expose] public section

set_option maxRecDepth 16384

noncomputable section

namespace Cert.GraphAttn

open Cert.KernelIdeal Cert.KernelIdeal.Gen Idealize.ShloMosaic Idealize.ShloMosaic.TcCoe

/-- The bias as a row, once for each head. -/
def prepB (b : FVec Ideal S128x1 .f32) : FVec Ideal S1x256 .f32 :=
  concatenate S1x256 1 [⟨S1x128, transpose S1x128 [1, 0] b transposes_S128x1_S1x128_1_0⟩,
    ⟨S1x128, transpose S1x128 [1, 0] b transposes_S128x1_S1x128_1_0⟩] concatenates_S1x128_S1x128_S1x256_d1

/-- The bias row holds the bias of the feature, whatever the head. -/
theorem prepB_at (b : FVec Ideal S128x1 .f32) (q : Fin 256) : prepB b (ix2 0 q) = b (ix2 (ft q) 0) := by
  unfold prepB
  pointwise
  by_cases h : q.val < 128
  · have hf : (⟨q.val, h⟩ : Fin 128) = ft q := Fin.ext (by simp only [ft]; omega)
    rw [dif_pos h, hf]
  · have hf : (⟨q.val - 128, by omega⟩ : Fin 128) = ft q := Fin.ext (by simp only [ft]; omega)
    rw [dif_neg h, hf]

/-! ### The preparation at 128 input features -/

/-- The mixer, its two halves stacked and the stack turned: column 2h + p is half h of head p. -/
def prepMix128 (a : FVec Ideal S2x1x256 .f32) : FVec Ideal S128x4 .bf16 :=
  truncf .bf16 (transpose S128x4 [1, 0] (concatenate S4x128 0
    [⟨S2x128, shapeCast S2x128 (extractStridedSlice S2x1x128 ![0, 0, 0] a slices_S2x1x256_S2x1x128_0_0_0) shapeCasts_S2x1x128_S2x128⟩,
     ⟨S2x128, shapeCast S2x128 (extractStridedSlice S2x1x128 ![0, 0, 128] a slices_S2x1x256_S2x1x128_0_0_128) shapeCasts_S2x1x128_S2x128⟩]
    concatenates_S2x128_S2x128_S4x128_d0) transposes_S4x128_S128x4_1_0) bitsLt_bf16_f32

/-- One tap's weights, the two heads'. -/
def tapW128 (w : FVec Ideal S2x1x2x128x128 .f32) : FVec Ideal S2x128x128 .f32 :=
  shapeCast S2x128x128 (extractStridedSlice S2x1x1x128x128 ![0, 0, 0, 0, 0] w slices_S2x1x2x128x128_S2x1x1x128x128_0_0_0_0_0)
    shapeCasts_S2x1x1x128x128_S2x128x128

/-- The first tap's weights, the two heads side by side. -/
def prepW0128 (w : FVec Ideal S2x1x2x128x128 .f32) : FVec Ideal S128x256 .bf16 :=
  truncf .bf16 (concatenate S128x256 1
    [⟨S128x128, shapeCast S128x128 (extractStridedSlice S1x128x128 ![0, 0, 0] (tapW128 w) slices_S2x128x128_S1x128x128_0_0_0) shapeCasts_S1x128x128_S128x128⟩,
     ⟨S128x128, shapeCast S128x128 (extractStridedSlice S1x128x128 ![1, 0, 0] (tapW128 w) slices_S2x128x128_S1x128x128_1_0_0) shapeCasts_S1x128x128_S128x128⟩]
    concatenates_S128x128_S128x128_S128x256_d1) bitsLt_bf16_f32

/-- The second tap's weights. -/
def prepW1128 (w : FVec Ideal S2x1x2x128x128 .f32) : FVec Ideal S2x128x128 .bf16 :=
  truncf .bf16 (shapeCast S2x128x128 (extractStridedSlice S2x1x1x128x128 ![0, 0, 1, 0, 0] w
    slices_S2x1x2x128x128_S2x1x1x128x128_0_0_1_0_0) shapeCasts_S2x1x1x128x128_S2x128x128) bitsLt_bf16_f32

/-- The stacked mixer, at an index. -/
theorem prepMix128_at (a : FVec Ideal S2x1x256 .f32) (p h : Fin 2) (c : Fin 128) :
    prepMix128 a (ix2 c (col p h)) = a (ix3 p 0 (half128 h c)) := by
  fin_cases p <;> fin_cases h <;> (unfold prepMix128; pointwise; exact congrArg a (congrArg (ix3 _ 0) (Fin.ext (by simp [half128]))))

/-- The first tap's weights, at an index: the head of the column, then its feature. -/
theorem prepW0128_at (w : FVec Ideal S2x1x2x128x128 .f32) (c : Fin 128) (q : Fin 256) :
    prepW0128 w (ix2 c q) = w (ix5 (hd q) 0 0 c (ft q)) := by
  unfold prepW0128 tapW128
  pointwise
  by_cases h : q.val < 128
  · have h0 : hd q = 0 := Fin.ext (by simp only [hd, Fin.val_zero]; omega)
    have hf : (⟨q.val, h⟩ : Fin 128) = ft q := Fin.ext (by simp only [ft]; omega)
    rw [dif_pos h, h0, hf]
  · have h0 : hd q = 1 := Fin.ext (by simp only [hd, Fin.val_one]; omega)
    have hf : (⟨q.val - 128, by omega⟩ : Fin 128) = ft q := Fin.ext (by simp only [ft]; omega)
    rw [dif_neg h, h0, hf]

/-- The second tap's weights, at an index. -/
theorem prepW1128_at (w : FVec Ideal S2x1x2x128x128 .f32) (p : Fin 2) (c : Fin 128) (f : Fin 128) :
    prepW1128 w (ix3 p c f) = w (ix5 p 0 1 c f) := by
  unfold prepW1128
  pointwise

/-! ### The preparation at 256 input features -/

/-- The mixer, its two halves stacked and the stack turned: column 2h + p is half h of head p. -/
def prepMix256 (a : FVec Ideal S2x1x512 .f32) : FVec Ideal S256x4 .bf16 :=
  truncf .bf16 (transpose S256x4 [1, 0] (concatenate S4x256 0
    [⟨S2x256, shapeCast S2x256 (extractStridedSlice S2x1x256 ![0, 0, 0] a slices_S2x1x512_S2x1x256_0_0_0) shapeCasts_S2x1x256_S2x256⟩,
     ⟨S2x256, shapeCast S2x256 (extractStridedSlice S2x1x256 ![0, 0, 256] a slices_S2x1x512_S2x1x256_0_0_256) shapeCasts_S2x1x256_S2x256⟩]
    concatenates_S2x256_S2x256_S4x256_d0) transposes_S4x256_S256x4_1_0) bitsLt_bf16_f32

/-- One tap's weights, the two heads'. -/
def tapW256 (w : FVec Ideal S2x1x2x256x128 .f32) : FVec Ideal S2x256x128 .f32 :=
  shapeCast S2x256x128 (extractStridedSlice S2x1x1x256x128 ![0, 0, 0, 0, 0] w slices_S2x1x2x256x128_S2x1x1x256x128_0_0_0_0_0)
    shapeCasts_S2x1x1x256x128_S2x256x128

/-- The first tap's weights, the two heads side by side. -/
def prepW0256 (w : FVec Ideal S2x1x2x256x128 .f32) : FVec Ideal S256x256 .bf16 :=
  truncf .bf16 (concatenate S256x256 1
    [⟨S256x128, shapeCast S256x128 (extractStridedSlice S1x256x128 ![0, 0, 0] (tapW256 w) slices_S2x256x128_S1x256x128_0_0_0) shapeCasts_S1x256x128_S256x128⟩,
     ⟨S256x128, shapeCast S256x128 (extractStridedSlice S1x256x128 ![1, 0, 0] (tapW256 w) slices_S2x256x128_S1x256x128_1_0_0) shapeCasts_S1x256x128_S256x128⟩]
    concatenates_S256x128_S256x128_S256x256_d1) bitsLt_bf16_f32

/-- The second tap's weights. -/
def prepW1256 (w : FVec Ideal S2x1x2x256x128 .f32) : FVec Ideal S2x256x128 .bf16 :=
  truncf .bf16 (shapeCast S2x256x128 (extractStridedSlice S2x1x1x256x128 ![0, 0, 1, 0, 0] w
    slices_S2x1x2x256x128_S2x1x1x256x128_0_0_1_0_0) shapeCasts_S2x1x1x256x128_S2x256x128) bitsLt_bf16_f32

/-- The stacked mixer, at an index. -/
theorem prepMix256_at (a : FVec Ideal S2x1x512 .f32) (p h : Fin 2) (c : Fin 256) :
    prepMix256 a (ix2 c (col p h)) = a (ix3 p 0 (half256 h c)) := by
  fin_cases p <;> fin_cases h <;> (unfold prepMix256; pointwise; exact congrArg a (congrArg (ix3 _ 0) (Fin.ext (by simp [half256]))))

/-- The first tap's weights, at an index: the head of the column, then its feature. -/
theorem prepW0256_at (w : FVec Ideal S2x1x2x256x128 .f32) (c : Fin 256) (q : Fin 256) :
    prepW0256 w (ix2 c q) = w (ix5 (hd q) 0 0 c (ft q)) := by
  unfold prepW0256 tapW256
  pointwise
  by_cases h : q.val < 128
  · have h0 : hd q = 0 := Fin.ext (by simp only [hd, Fin.val_zero]; omega)
    have hf : (⟨q.val, h⟩ : Fin 128) = ft q := Fin.ext (by simp only [ft]; omega)
    rw [dif_pos h, h0, hf]
  · have h0 : hd q = 1 := Fin.ext (by simp only [hd, Fin.val_one]; omega)
    have hf : (⟨q.val - 128, by omega⟩ : Fin 128) = ft q := Fin.ext (by simp only [ft]; omega)
    rw [dif_neg h, h0, hf]

/-- The second tap's weights, at an index. -/
theorem prepW1256_at (w : FVec Ideal S2x1x2x256x128 .f32) (p : Fin 2) (c : Fin 256) (f : Fin 128) :
    prepW1256 w (ix3 p c f) = w (ix5 p 0 1 c f) := by
  unfold prepW1256
  pointwise

/-! ### The launch's arrays -/

variable (m : (ℓ : Loc nD τ sig) → Buf (Elt Ideal) ℓ) (c : Dev nD)

set_option maxHeartbeats 4000000 in
/-- The four arrays of layer down0. -/
theorem prepared_down0 :
    (V (F := Ideal) m c main_call0_v6 : FVec Ideal S128x4 .bf16) = prepMix128 (m ((c : Thread nD τ).loc main_arg2))
    ∧ (V (F := Ideal) m c main_call0_v14 : FVec Ideal S128x256 .bf16) = prepW0128 (m ((c : Thread nD τ).loc main_arg3))
    ∧ (V (F := Ideal) m c main_call0_v17 : FVec Ideal S2x128x128 .bf16) = prepW1128 (m ((c : Thread nD τ).loc main_arg3))
    ∧ (V (F := Ideal) m c main_call0_v20 : FVec Ideal S1x256 .f32) = prepB (m ((c : Thread nD τ).loc main_arg4)) := by
  refine ⟨?_, ?_, ?_, ?_⟩ <;> (unfold_abbrev_sides; after_reads_simp; rfl)

set_option maxHeartbeats 4000000 in
/-- The four arrays of layer down1. -/
theorem prepared_down1 :
    (V (F := Ideal) m c main_call0_v27 : FVec Ideal S256x4 .bf16) = prepMix256 (m ((c : Thread nD τ).loc main_arg5))
    ∧ (V (F := Ideal) m c main_call0_v35 : FVec Ideal S256x256 .bf16) = prepW0256 (m ((c : Thread nD τ).loc main_arg6))
    ∧ (V (F := Ideal) m c main_call0_v38 : FVec Ideal S2x256x128 .bf16) = prepW1256 (m ((c : Thread nD τ).loc main_arg6))
    ∧ (V (F := Ideal) m c main_call0_v41 : FVec Ideal S1x256 .f32) = prepB (m ((c : Thread nD τ).loc main_arg7)) := by
  refine ⟨?_, ?_, ?_, ?_⟩ <;> (unfold_abbrev_sides; after_reads_simp; rfl)

set_option maxHeartbeats 4000000 in
/-- The four arrays of layer up0. -/
theorem prepared_up0 :
    (V (F := Ideal) m c main_call0_v48 : FVec Ideal S256x4 .bf16) = prepMix256 (m ((c : Thread nD τ).loc main_arg8))
    ∧ (V (F := Ideal) m c main_call0_v56 : FVec Ideal S256x256 .bf16) = prepW0256 (m ((c : Thread nD τ).loc main_arg9))
    ∧ (V (F := Ideal) m c main_call0_v59 : FVec Ideal S2x256x128 .bf16) = prepW1256 (m ((c : Thread nD τ).loc main_arg9))
    ∧ (V (F := Ideal) m c main_call0_v62 : FVec Ideal S1x256 .f32) = prepB (m ((c : Thread nD τ).loc main_arg10)) := by
  refine ⟨?_, ?_, ?_, ?_⟩ <;> (unfold_abbrev_sides; after_reads_simp; rfl)

set_option maxHeartbeats 4000000 in
/-- The four arrays of layer up1. -/
theorem prepared_up1 :
    (V (F := Ideal) m c main_call0_v69 : FVec Ideal S256x4 .bf16) = prepMix256 (m ((c : Thread nD τ).loc main_arg11))
    ∧ (V (F := Ideal) m c main_call0_v77 : FVec Ideal S256x256 .bf16) = prepW0256 (m ((c : Thread nD τ).loc main_arg12))
    ∧ (V (F := Ideal) m c main_call0_v80 : FVec Ideal S2x256x128 .bf16) = prepW1256 (m ((c : Thread nD τ).loc main_arg12))
    ∧ (V (F := Ideal) m c main_call0_v83 : FVec Ideal S1x256 .f32) = prepB (m ((c : Thread nD τ).loc main_arg13)) := by
  refine ⟨?_, ?_, ?_, ?_⟩ <;> (unfold_abbrev_sides; after_reads_simp; rfl)

set_option maxHeartbeats 4000000 in
/-- The four arrays of layer sc0. -/
theorem prepared_sc0 :
    (V (F := Ideal) m c main_call0_v90 : FVec Ideal S128x4 .bf16) = prepMix128 (m ((c : Thread nD τ).loc main_arg14))
    ∧ (V (F := Ideal) m c main_call0_v98 : FVec Ideal S128x256 .bf16) = prepW0128 (m ((c : Thread nD τ).loc main_arg15))
    ∧ (V (F := Ideal) m c main_call0_v101 : FVec Ideal S2x128x128 .bf16) = prepW1128 (m ((c : Thread nD τ).loc main_arg15))
    ∧ (V (F := Ideal) m c main_call0_v104 : FVec Ideal S1x256 .f32) = prepB (m ((c : Thread nD τ).loc main_arg16)) := by
  refine ⟨?_, ?_, ?_, ?_⟩ <;> (unfold_abbrev_sides; after_reads_simp; rfl)

set_option maxHeartbeats 4000000 in
/-- The four arrays of layer sc1. -/
theorem prepared_sc1 :
    (V (F := Ideal) m c main_call0_v111 : FVec Ideal S256x4 .bf16) = prepMix256 (m ((c : Thread nD τ).loc main_arg17))
    ∧ (V (F := Ideal) m c main_call0_v119 : FVec Ideal S256x256 .bf16) = prepW0256 (m ((c : Thread nD τ).loc main_arg18))
    ∧ (V (F := Ideal) m c main_call0_v122 : FVec Ideal S2x256x128 .bf16) = prepW1256 (m ((c : Thread nD τ).loc main_arg18))
    ∧ (V (F := Ideal) m c main_call0_v125 : FVec Ideal S1x256 .f32) = prepB (m ((c : Thread nD τ).loc main_arg19)) := by
  refine ⟨?_, ?_, ?_, ?_⟩ <;> (unfold_abbrev_sides; after_reads_simp; rfl)

end Cert.GraphAttn
-- ==== Proof.RLayer.lean ====
/-
  THE REFERENCE'S LAYER. The reference applies one graph attention layer six times, to all sixteen batch elements at
    once.
  Here the layer is written once, stage by stage in the printed operations, at the two feature counts it has (128 and
  256), and read at an index: it is the mathematical layer of Proof/Core.lean.
-/
module

public import proofs.«01_k».proof.Proof.Gen.ReferenceIdeal
public import proofs.«01_k».proof.Proof.Core
public import proofs.«01_k».proof.Proof.Consts
public import Idealize.ShloMosaic.Lib.Pointwise

@[expose] public section

set_option maxRecDepth 16384

noncomputable section

namespace Cert.GraphAttn

open Cert.ReferenceIdeal Cert.ReferenceIdeal.Gen Idealize.ShloMosaic

/-! ### The stages that do not depend on the feature count -/

/-- Adjacency matrix 0 of every batch element. -/
def rS0 (s : FVec Ideal S16x2x512x512 .f32) : FVec Ideal S16x1x512x512 .f32 :=
  extractStridedSlice S16x1x512x512 ![0, 0, 0, 0] s slices_S16x2x512x512_S16x1x512x512_0_0_0_0

/-- Adjacency matrix 1 of every batch element. -/
def rS1 (s : FVec Ideal S16x2x512x512 .f32) : FVec Ideal S16x1x512x512 .f32 :=
  extractStridedSlice S16x1x512x512 ![0, 1, 0, 0] s slices_S16x2x512x512_S16x1x512x512_0_1_0_0

/-- The leaky scores where there is an edge, minus infinity elsewhere. -/
def rMasked (s : FVec Ideal S16x1x512x512 .f32) (t : FVec Ideal S16x2x1x512x512 .f32) : FVec Ideal S16x2x1x512x512
    .f32 :=
  select (broadcastInDim S16x2x1x512x512 ![0, 1, 2, 3, 4] bcast_S16x1x1x512x512_S16x2x1x512x512_0_1_2_3_4 (cmpf .ogt
    (broadcastInDim S16x1x1x512x512 ![0, 2, 3, 4] bcast_S16x1x512x512_S16x1x1x512x512_0_2_3_4 (Host.absf s))
    (broadcastInDim S16x1x1x512x512 ![] bcast_S_S16x1x1x512x512 (constant S_ .f32 0x3089705F#32)))) (select (cmpf
    .oge t (broadcastInDim S16x2x1x512x512 ![] bcast_S_S16x2x1x512x512 (constant S_ .f32 0x00000000#32))) t (mulf
    (broadcastInDim S16x2x1x512x512 ![] bcast_S_S16x2x1x512x512 (constant S_ .f32 0x3E4CCCCD#32)) t))
    (broadcastInDim S16x2x1x512x512 ![] bcast_S_S16x2x1x512x512 (constant S_ .f32 0xFF800000#32))

/-- The rows' maxima. -/
def rMax (t : FVec Ideal S16x2x1x512x512 .f32) : FVec Ideal S16x2x1x512 .f32 :=
  Host.reduce FloatOps.maximumf t (constant S_ .f32
    0xFF800000#32) reducesTo_S16x2x1x512x512_S16x2x1x512_d4 h_S_

/-- The rows' maxima, spread along the rows. -/
def rSpread (r : FVec Ideal S16x2x1x512 .f32) : FVec Ideal S16x2x1x512x512 .f32 :=
  broadcastInDim S16x2x1x512x512 ![0, 1, 2, 3, 4] bcast_S16x2x1x512x1_S16x2x1x512x512_0_1_2_3_4 (broadcastInDim
    S16x2x1x512x1 ![0, 1, 2, 3] bcast_S16x2x1x512_S16x2x1x512x1_0_1_2_3 (maximumf (broadcastInDim S16x2x1x512 ![]
    bcast_S_S16x2x1x512 (constant S_ .f32 0xFF800000#32)) r))

/-- The row-shifted exponentials. -/
def rExp (t : FVec Ideal S16x2x1x512x512 .f32) : FVec Ideal S16x2x1x512x512 .f32 :=
  Host.exp (subf t (rSpread (rMax t)))

/-- The softmax's quotient. -/
def rAtt (e : FVec Ideal S16x2x1x512x512 .f32) : FVec Ideal S16x2x1x512x512 .f32 :=
  Host.divf e (broadcastInDim S16x2x1x512x512 ![0, 1, 2, 3, 4] bcast_S16x2x1x512x1_S16x2x1x512x512_0_1_2_3_4
    (broadcastInDim S16x2x1x512x1 ![0, 1, 2, 3] bcast_S16x2x1x512_S16x2x1x512x1_0_1_2_3 (Host.reduceAdd e (constant
    S_ .f32 0x00000000#32) reducesTo_S16x2x1x512x512_S16x2x1x512_d4 h_S_)))

/-- Both taps and the bias, floored at 0, with the two heads' features joined. -/
def rOut (t0 t1 : FVec Ideal S2x128x16x512 .f32) (b : FVec Ideal S128x1 .f32) : FVec Ideal S16x256x512 .f32 :=
  transpose S16x256x512 [0, 2, 1] (shapeCast _ (transpose S16x512x2x128 [0, 3, 1, 2] (maximumf (addf (addf (transpose
    S16x2x128x512 [2, 0, 1, 3] t0 transposes_S2x128x16x512_S16x2x128x512_2_0_1_3) (transpose S16x2x128x512 [2, 0, 1,
    3] t1 transposes_S2x128x16x512_S16x2x128x512_2_0_1_3)) (broadcastInDim S16x2x128x512 ![0, 1, 2, 3]
    bcast_S1x1x128x1_S16x2x128x512_0_1_2_3 (broadcastInDim S1x1x128x1 ![2, 3] bcast_S128x1_S1x1x128x1_2_3 b)))
    (broadcastInDim S16x2x128x512 ![] bcast_S_S16x2x128x512 (constant S_ .f32 0x00000000#32)))
    transposes_S16x2x128x512_S16x512x2x128_0_3_1_2) shapeCasts_S16x512x2x128_S16x512x256)
    transposes_S16x512x256_S16x256x512_0_2_1

/-! ### The stages at 128 input features -/

/-- The scores of both heads: the first half of the mixer against the row's node, the second against the column's. -/
def rScore128 (x : FVec Ideal S16x128x512 .f32) (a : FVec Ideal S2x1x256 .f32) : FVec Ideal S16x2x1x512x512 .f32 :=
  addf (broadcastInDim S16x2x1x512x512 ![0, 1, 2, 3, 4] bcast_S16x2x1x512x1_S16x2x1x512x512_0_1_2_3_4 (broadcastInDim
    S16x2x1x512x1 ![0, 1, 2, 3] bcast_S16x2x1x512_S16x2x1x512x1_0_1_2_3 (transpose S16x2x1x512 [2, 0, 1, 3]
    (Host.dotGeneral dot_S2x1x128_S16x512x128_S2x1x16x512_2_2_01_01_n_n none (extractStridedSlice S2x1x128 ![0, 0, 0]
    a slices_S2x1x256_S2x1x128_0_0_0) (transpose S16x512x128 [0, 2, 1] x transposes_S16x128x512_S16x512x128_0_2_1))
    transposes_S2x1x16x512_S16x2x1x512_2_0_1_3))) (broadcastInDim S16x2x1x512x512 ![0, 1, 2, 3, 4]
    bcast_S16x2x1x1x512_S16x2x1x512x512_0_1_2_3_4 (broadcastInDim S16x2x1x1x512 ![0, 1, 2, 4]
    bcast_S16x2x1x512_S16x2x1x1x512_0_1_2_4 (transpose S16x2x1x512 [2, 0, 1, 3] (Host.dotGeneral
    dot_S2x1x128_S16x512x128_S2x1x16x512_2_2_01_01_n_n none (extractStridedSlice S2x1x128 ![0, 0, 128] a
    slices_S2x1x256_S2x1x128_0_0_128) (transpose S16x512x128 [0, 2, 1] x transposes_S16x128x512_S16x512x128_0_2_1))
    transposes_S2x1x16x512_S16x2x1x512_2_0_1_3)))

/-- The features, once for each head. -/
def rXb128 (x : FVec Ideal S16x128x512 .f32) : FVec Ideal S16x2x1x128x512 .f32 :=
  broadcastInDim S16x2x1x128x512 ![0, 1, 2, 3, 4] bcast_S16x1x1x128x512_S16x2x1x128x512_0_1_2_3_4 (broadcastInDim
    S16x1x1x128x512 ![0, 3, 4] bcast_S16x128x512_S16x1x1x128x512_0_3_4 x)

/-- The first tap: the features through the weights. -/
def rTap0128 (w : FVec Ideal S2x1x2x128x128 .f32) (xb : FVec Ideal S16x2x1x128x512 .f32) : FVec Ideal S2x128x16x512
    .f32 :=
  Host.dotGeneral dot_S2x1x128x128_S16x2x1x128x512_S2x128x16x512_12_23_3_04_0_1 none (shapeCast _
    (extractStridedSlice S2x1x1x128x128 ![0, 0, 0, 0, 0] w slices_S2x1x2x128x128_S2x1x1x128x128_0_0_0_0_0)
    shapeCasts_S2x1x1x128x128_S2x1x128x128) xb

/-- The second tap: the features averaged by the attention, through the weights. -/
def rTap1128 (w : FVec Ideal S2x1x2x128x128 .f32) (xb : FVec Ideal S16x2x1x128x512 .f32) (e : FVec Ideal
    S16x2x1x512x512 .f32) :
    FVec Ideal S2x128x16x512 .f32 :=
  Host.dotGeneral dot_S2x1x128x128_S16x2x1x128x512_S2x128x16x512_12_23_3_04_0_1 none (shapeCast _
    (extractStridedSlice S2x1x1x128x128 ![0, 0, 1, 0, 0] w slices_S2x1x2x128x128_S2x1x1x128x128_0_0_1_0_0)
    shapeCasts_S2x1x1x128x128_S2x1x128x128) (Host.dotGeneral
    dot_S16x2x1x128x512_S16x2x1x512x512_S16x2x1x128x512_4_4_3_3_012_012 none xb (rAtt e))

/-- The layer. -/
def rLayer128 (s : FVec Ideal S16x1x512x512 .f32) (x : FVec Ideal S16x128x512 .f32) (a : FVec Ideal S2x1x256 .f32)
    (w : FVec Ideal S2x1x2x128x128 .f32) (b : FVec Ideal S128x1 .f32) : FVec Ideal S16x256x512 .f32 :=
  rOut (rTap0128 w (rXb128 x)) (rTap1128 w (rXb128 x) (rExp (rMasked s (rScore128 x a)))) b

/-! ### The stages at 256 input features -/

/-- The scores of both heads: the first half of the mixer against the row's node, the second against the column's. -/
def rScore256 (x : FVec Ideal S16x256x512 .f32) (a : FVec Ideal S2x1x512 .f32) : FVec Ideal S16x2x1x512x512 .f32 :=
  addf (broadcastInDim S16x2x1x512x512 ![0, 1, 2, 3, 4] bcast_S16x2x1x512x1_S16x2x1x512x512_0_1_2_3_4 (broadcastInDim
    S16x2x1x512x1 ![0, 1, 2, 3] bcast_S16x2x1x512_S16x2x1x512x1_0_1_2_3 (transpose S16x2x1x512 [2, 0, 1, 3]
    (Host.dotGeneral dot_S2x1x256_S16x512x256_S2x1x16x512_2_2_01_01_n_n none (extractStridedSlice S2x1x256 ![0, 0, 0]
    a slices_S2x1x512_S2x1x256_0_0_0) (transpose S16x512x256 [0, 2, 1] x transposes_S16x256x512_S16x512x256_0_2_1))
    transposes_S2x1x16x512_S16x2x1x512_2_0_1_3))) (broadcastInDim S16x2x1x512x512 ![0, 1, 2, 3, 4]
    bcast_S16x2x1x1x512_S16x2x1x512x512_0_1_2_3_4 (broadcastInDim S16x2x1x1x512 ![0, 1, 2, 4]
    bcast_S16x2x1x512_S16x2x1x1x512_0_1_2_4 (transpose S16x2x1x512 [2, 0, 1, 3] (Host.dotGeneral
    dot_S2x1x256_S16x512x256_S2x1x16x512_2_2_01_01_n_n none (extractStridedSlice S2x1x256 ![0, 0, 256] a
    slices_S2x1x512_S2x1x256_0_0_256) (transpose S16x512x256 [0, 2, 1] x transposes_S16x256x512_S16x512x256_0_2_1))
    transposes_S2x1x16x512_S16x2x1x512_2_0_1_3)))

/-- The features, once for each head. -/
def rXb256 (x : FVec Ideal S16x256x512 .f32) : FVec Ideal S16x2x1x256x512 .f32 :=
  broadcastInDim S16x2x1x256x512 ![0, 1, 2, 3, 4] bcast_S16x1x1x256x512_S16x2x1x256x512_0_1_2_3_4 (broadcastInDim
    S16x1x1x256x512 ![0, 3, 4] bcast_S16x256x512_S16x1x1x256x512_0_3_4 x)

/-- The first tap: the features through the weights. -/
def rTap0256 (w : FVec Ideal S2x1x2x256x128 .f32) (xb : FVec Ideal S16x2x1x256x512 .f32) : FVec Ideal S2x128x16x512
    .f32 :=
  Host.dotGeneral dot_S2x1x256x128_S16x2x1x256x512_S2x128x16x512_12_23_3_04_0_1 none (shapeCast _
    (extractStridedSlice S2x1x1x256x128 ![0, 0, 0, 0, 0] w slices_S2x1x2x256x128_S2x1x1x256x128_0_0_0_0_0)
    shapeCasts_S2x1x1x256x128_S2x1x256x128) xb

/-- The second tap: the features averaged by the attention, through the weights. -/
def rTap1256 (w : FVec Ideal S2x1x2x256x128 .f32) (xb : FVec Ideal S16x2x1x256x512 .f32) (e : FVec Ideal
    S16x2x1x512x512 .f32) :
    FVec Ideal S2x128x16x512 .f32 :=
  Host.dotGeneral dot_S2x1x256x128_S16x2x1x256x512_S2x128x16x512_12_23_3_04_0_1 none (shapeCast _
    (extractStridedSlice S2x1x1x256x128 ![0, 0, 1, 0, 0] w slices_S2x1x2x256x128_S2x1x1x256x128_0_0_1_0_0)
    shapeCasts_S2x1x1x256x128_S2x1x256x128) (Host.dotGeneral
    dot_S16x2x1x256x512_S16x2x1x512x512_S16x2x1x256x512_4_4_3_3_012_012 none xb (rAtt e))

/-- The layer. -/
def rLayer256 (s : FVec Ideal S16x1x512x512 .f32) (x : FVec Ideal S16x256x512 .f32) (a : FVec Ideal S2x1x512 .f32)
    (w : FVec Ideal S2x1x2x256x128 .f32) (b : FVec Ideal S128x1 .f32) : FVec Ideal S16x256x512 .f32 :=
  rOut (rTap0256 w (rXb256 x)) (rTap1256 w (rXb256 x) (rExp (rMasked s (rScore256 x a)))) b

/-- The reference's network. -/
def rNet (x : FVec Ideal S16x128x512 .f32) (s : FVec Ideal S16x2x512x512 .f32)
    (x2 : FVec Ideal S2x1x256 .f32) (x3 : FVec Ideal S2x1x2x128x128 .f32) (x4 : FVec Ideal S128x1 .f32)
    (x5 : FVec Ideal S2x1x512 .f32) (x6 : FVec Ideal S2x1x2x256x128 .f32) (x7 : FVec Ideal S128x1 .f32)
    (x8 : FVec Ideal S2x1x512 .f32) (x9 : FVec Ideal S2x1x2x256x128 .f32) (x10 : FVec Ideal S128x1 .f32)
    (x11 : FVec Ideal S2x1x512 .f32) (x12 : FVec Ideal S2x1x2x256x128 .f32) (x13 : FVec Ideal S128x1 .f32)
    (x14 : FVec Ideal S2x1x256 .f32) (x15 : FVec Ideal S2x1x2x128x128 .f32) (x16 : FVec Ideal S128x1 .f32)
    (x17 : FVec Ideal S2x1x512 .f32) (x18 : FVec Ideal S2x1x2x256x128 .f32) (x19 : FVec Ideal S128x1 .f32) :
    FVec Ideal S16x256x512 .f32 :=
  addf
    (rLayer256 (rS0 s)
      (addf (rLayer256 (rS1 s) (rLayer256 (rS1 s) (rLayer128 (rS0 s) x x2 x3 x4) x5 x6 x7) x8 x9 x10)
        (rLayer256 (rS1 s) (rLayer128 (rS0 s) x x2 x3 x4) x17 x18 x19))
      x11 x12 x13)
    (rLayer128 (rS0 s) x x14 x15 x16)

/-! ### The stages read at an index -/

/-- A maximum along the last of five axes at an index. -/
theorem reduceMax_at {n0 n1 n2 n3 n4 : Nat} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) x init h hu (ix4 a b c d)
      = Finset.fold max (init (Shape.Idx.first hu)) (fun k => x (ix5 a b c d k)) Finset.univ := by
  rw [Host.reduce_eq_fold, Shape.ReducesTo.fold_fiber_r5_a4]
  rfl

/-- The reference's row maximum is the fold of the row. -/
theorem rMax_at (t : FVec Ideal S16x2x1x512x512 .f32) (b : Fin 16) (p : Fin 2) (n : Fin 512) :
    rMax t (ix4 b p 0 n) = Finset.fold max (Ideal.ofBits .f32 0xFF800000#32) (fun k => t (ix5 b p 0 n k)) Finset.univ :=
  reduceMax_at (n0 := 16) (n1 := 2) (n2 := 1) (n3 := 512) (n4 := 512) t (constant (F := Ideal) S_ .f32 0xFF800000#32)
    reducesTo_S16x2x1x512x512_S16x2x1x512_d4 h_S_ b p 0 n

/-- A row's maximum, spread along the row. -/
theorem rSpread_at (r : FVec Ideal S16x2x1x512 .f32) (b : Fin 16) (p : Fin 2) (n j : Fin 512) :
    rSpread r (ix5 b p 0 n j) = max (Ideal.ofBits .f32 0xFF800000#32) (r (ix4 b p 0 n)) := by
  unfold rSpread
  pointwise

open Classical in
/-- The masked scores: the leaky relu of the score on an edge, minus infinity elsewhere. -/
theorem rMasked_at (s : FVec Ideal S16x1x512x512 .f32) (t : FVec Ideal S16x2x1x512x512 .f32) (b : Fin 16) (p : Fin 2)
    (n j : Fin 512) (v : ℝ) (hv : t (ix5 b p 0 n j) = (v : EReal)) :
    rMasked s t (ix5 b p 0 n j) = if Edge (s (ix4 b 0 n j)) then (leaky v : EReal) else ⊥ := by
  rw [← leaky_select v]
  unfold rMasked
  pointwise
  rw [hv]
  rw [ofBits_slope, ofBits_bot]
  by_cases hE : Edge (s (ix4 b 0 n j))
  · rw [if_pos hE]
    exact if_pos hE
  · rw [if_neg hE]
    exact if_neg hE

/-- The reference's layer at an index: the two taps and the bias, cut below at zero. -/
theorem rOut_at (t0 t1 : FVec Ideal S2x128x16x512 .f32) (bb : FVec Ideal S128x1 .f32) (b : Fin 16) (q : Fin 256) (n : Fin 512) :
    rOut t0 t1 bb (ix3 b q n) = max (t0 (ix4 (hd q) (ft q) b n) + t1 (ix4 (hd q) (ft q) b n) + bb (ix2 (ft q) 0)) 0 := by
  unfold rOut
  pointwise
  rfl

/-- The weights of one row, its scores finite and an edge in it: the row's exponentials under some shift, cut by the mask. -/
theorem rExp_at (s : FVec Ideal S16x1x512x512 .f32) (t : FVec Ideal S16x2x1x512x512 .f32) (b : Fin 16) (p : Fin 2)
    (n : Fin 512) (v : Fin 512 → ℝ) (hv : ∀ j, t (ix5 b p 0 n j) = (v j : EReal)) (hm : ∃ j, Edge (s (ix4 b 0 n j))) :
    ∃ B : ℝ, ∀ j, rExp (rMasked s t) (ix5 b p 0 n j)
      = (expW (fun j => leaky (v j)) (fun j => Edge (s (ix4 b 0 n j))) B j : EReal) := by
  have hF : IsFin (Finset.fold max ⊥ (fun k => rMasked s t (ix5 b p 0 n k)) Finset.univ) := by
    obtain ⟨j, hj⟩ := hm
    refine fin_fold_max _ _ (fun i _ => ?_) ⟨j, Finset.mem_univ _, ?_⟩
    · rw [rMasked_at s t b p n i _ (hv i)]
      split
      · exact EReal.coe_ne_top _
      · exact bot_ne_top
    · rw [rMasked_at s t b p n j _ (hv j), if_pos hj]
      exact EReal.coe_ne_bot _
  obtain ⟨r, hr⟩ : ∃ r : ℝ, Finset.fold max ⊥ (fun k => rMasked s t (ix5 b p 0 n k)) Finset.univ = (r : EReal) := ⟨_, hF.eq⟩
  refine ⟨r, fun j => ?_⟩
  have e : rExp (rMasked s t) (ix5 b p 0 n j)
      = Ideal.exp (rMasked s t (ix5 b p 0 n j) - rSpread (rMax (rMasked s t)) (ix5 b p 0 n j)) := rfl
  rw [e, rSpread_at, rMax_at, ofBits_bot, max_eq_right bot_le, hr, rMasked_at s t b p n j _ (hv j)]
  exact exp_entry (fun j => leaky (v j)) (fun j => Edge (s (ix4 b 0 n j))) r j

/-! ### The layer at 128 input features, at an index -/

/-- A score: the two halves of the mixer against the features of the two nodes. -/
theorem rScore128_at (x : FVec Ideal S16x128x512 .f32) (a : FVec Ideal S2x1x256 .f32) (b : Fin 16) (p : Fin 2) (n j : Fin 512) :
    rScore128 x a (ix5 b p 0 n j)
      = ∑ c, x (ix3 b c n) * a (ix3 p 0 (half128 0 c)) + ∑ c, x (ix3 b c j) * a (ix3 p 0 (half128 1 c)) := by
  unfold rScore128
  pointwise
  have h0 : ∀ c : Fin 128, half128 0 c = ⟨c.val, by omega⟩ := fun c => Fin.ext (by simp [half128])
  have h1 : ∀ c : Fin 128, half128 1 c = ⟨128 + c.val, by omega⟩ := fun c => Fin.ext (by simp [half128])
  simp only [mul_comm (a _), h0, h1]

/-- The first tap: the features of the node times the weights. -/
theorem rTap0128_at (x : FVec Ideal S16x128x512 .f32) (w : FVec Ideal S2x1x2x128x128 .f32) (b : Fin 16) (p : Fin 2) (f : Fin 128)
    (n : Fin 512) : rTap0128 w (rXb128 x) (ix4 p f b n) = ∑ c, w (ix5 p 0 0 c f) * x (ix3 b c n) := by
  unfold rTap0128 rXb128
  pointwise
  rw [Fin.sum_univ_one]

/-- The second tap: the attention average of the features times the weights. -/
theorem rTap1128_at (x : FVec Ideal S16x128x512 .f32) (w : FVec Ideal S2x1x2x128x128 .f32) (e : FVec Ideal S16x2x1x512x512 .f32)
    (b : Fin 16) (p : Fin 2) (f : Fin 128) (n : Fin 512) :
    rTap1128 w (rXb128 x) e (ix4 p f b n)
      = ∑ c, w (ix5 p 0 1 c f) * ∑ j, x (ix3 b c j) * Ideal.div (e (ix5 b p 0 n j)) (∑ i, e (ix5 b p 0 n i)) := by
  unfold rTap1128 rXb128 rAtt
  pointwise
  rw [Fin.sum_univ_one]

/-- The reference's layer is the mathematical layer of its parameters. -/
theorem rLayer128_at (s : FVec Ideal S16x1x512x512 .f32) (x : FVec Ideal S16x128x512 .f32) (a : FVec Ideal S2x1x256 .f32)
    (w : FVec Ideal S2x1x2x128x128 .f32) (bb : FVec Ideal S128x1 .f32) (b : Fin 16)
    (hX : ∀ n c, IsFin (x (ix3 b c n))) (hA : ∀ p c, IsFin (a (ix3 p 0 c)))
    (hm : ∀ n, ∃ j, Edge (s (ix4 b 0 n j))) (q : Fin 256) (n : Fin 512) :
    rLayer128 s x a w bb (ix3 b q n)
      = layer (fun n c => x (ix3 b c n)) (fun p h c => a (ix3 p 0 (half128 h c))) (fun t p c f => w (ix5 p 0 t c f))
        (fun f => bb (ix2 f 0)) (fun n j => Edge (s (ix4 b 0 n j))) n q := by
  obtain ⟨B, hB⟩ := rExp_at s (rScore128 x a) b (hd q) n
    (fun j => score (fun n c => x (ix3 b c n)) (fun c => a (ix3 (hd q) 0 (half128 0 c))) n
      + score (fun n c => x (ix3 b c n)) (fun c => a (ix3 (hd q) 0 (half128 1 c))) j)
    (fun j => by
      rw [rScore128_at, EReal.coe_add, ← score_eq _ _ hX (fun c => hA _ _), ← score_eq _ _ hX (fun c => hA _ _)]) (hm n)
  unfold rLayer128
  rw [rOut_at, rTap0128_at, rTap1128_at]
  exact head_of_reference (fun n c => x (ix3 b c n)) _ _ _ _ _ _ hX n (hm n) B _ hB

/-! ### The layer at 256 input features, at an index -/

/-- A score: the two halves of the mixer against the features of the two nodes. -/
theorem rScore256_at (x : FVec Ideal S16x256x512 .f32) (a : FVec Ideal S2x1x512 .f32) (b : Fin 16) (p : Fin 2) (n j : Fin 512) :
    rScore256 x a (ix5 b p 0 n j)
      = ∑ c, x (ix3 b c n) * a (ix3 p 0 (half256 0 c)) + ∑ c, x (ix3 b c j) * a (ix3 p 0 (half256 1 c)) := by
  unfold rScore256
  pointwise
  have h0 : ∀ c : Fin 256, half256 0 c = ⟨c.val, by omega⟩ := fun c => Fin.ext (by simp [half256])
  have h1 : ∀ c : Fin 256, half256 1 c = ⟨256 + c.val, by omega⟩ := fun c => Fin.ext (by simp [half256])
  simp only [mul_comm (a _), h0, h1]

/-- The first tap: the features of the node times the weights. -/
theorem rTap0256_at (x : FVec Ideal S16x256x512 .f32) (w : FVec Ideal S2x1x2x256x128 .f32) (b : Fin 16) (p : Fin 2) (f : Fin 128)
    (n : Fin 512) : rTap0256 w (rXb256 x) (ix4 p f b n) = ∑ c, w (ix5 p 0 0 c f) * x (ix3 b c n) := by
  unfold rTap0256 rXb256
  pointwise
  rw [Fin.sum_univ_one]

/-- The second tap: the attention average of the features times the weights. -/
theorem rTap1256_at (x : FVec Ideal S16x256x512 .f32) (w : FVec Ideal S2x1x2x256x128 .f32) (e : FVec Ideal S16x2x1x512x512 .f32)
    (b : Fin 16) (p : Fin 2) (f : Fin 128) (n : Fin 512) :
    rTap1256 w (rXb256 x) e (ix4 p f b n)
      = ∑ c, w (ix5 p 0 1 c f) * ∑ j, x (ix3 b c j) * Ideal.div (e (ix5 b p 0 n j)) (∑ i, e (ix5 b p 0 n i)) := by
  unfold rTap1256 rXb256 rAtt
  pointwise
  rw [Fin.sum_univ_one]

/-- The reference's layer is the mathematical layer of its parameters. -/
theorem rLayer256_at (s : FVec Ideal S16x1x512x512 .f32) (x : FVec Ideal S16x256x512 .f32) (a : FVec Ideal S2x1x512 .f32)
    (w : FVec Ideal S2x1x2x256x128 .f32) (bb : FVec Ideal S128x1 .f32) (b : Fin 16)
    (hX : ∀ n c, IsFin (x (ix3 b c n))) (hA : ∀ p c, IsFin (a (ix3 p 0 c)))
    (hm : ∀ n, ∃ j, Edge (s (ix4 b 0 n j))) (q : Fin 256) (n : Fin 512) :
    rLayer256 s x a w bb (ix3 b q n)
      = layer (fun n c => x (ix3 b c n)) (fun p h c => a (ix3 p 0 (half256 h c))) (fun t p c f => w (ix5 p 0 t c f))
        (fun f => bb (ix2 f 0)) (fun n j => Edge (s (ix4 b 0 n j))) n q := by
  obtain ⟨B, hB⟩ := rExp_at s (rScore256 x a) b (hd q) n
    (fun j => score (fun n c => x (ix3 b c n)) (fun c => a (ix3 (hd q) 0 (half256 0 c))) n
      + score (fun n c => x (ix3 b c n)) (fun c => a (ix3 (hd q) 0 (half256 1 c))) j)
    (fun j => by
      rw [rScore256_at, EReal.coe_add, ← score_eq _ _ hX (fun c => hA _ _), ← score_eq _ _ hX (fun c => hA _ _)]) (hm n)
  unfold rLayer256
  rw [rOut_at, rTap0256_at, rTap1256_at]
  exact head_of_reference (fun n c => x (ix3 b c n)) _ _ _ _ _ _ hX n (hm n) B _ hB

end Cert.GraphAttn
-- ==== Proof.PreRead.lean ====
/-
  THE PRECONDITION, READ. What `finite_inputs` says of the arguments: every row of both graphs has an edge, and the
  features, the mixers and the weights of the four layers whose results other layers read are finite.
-/
module

public import proofs.«01_k».proof.Pre_finite_inputs
public import proofs.«01_k».proof.Proof.Consts
public import Idealize.ShloMosaic.Lib.ReduceAll
public import Idealize.ShloMosaic.Lib.Pointwise

@[expose] public section

set_option maxRecDepth 16384

noncomputable section

namespace Cert.GraphAttn

open Cert.Pre_finite_inputs Idealize.ShloMosaic

/-- The side conditions of the precondition's operations. -/
instance preFacts : Cert.Pre_finite_inputs.Facts where
  bcast_S_S16x2x512x512 := by decide
  reducesTo_S16x2x512x512_S16x2x512_d3 := by decide
  h_S_ := by decide
  reducesTo_S16x2x512_S_d0_1_2 := by decide
  bcast_S_S16x128x512 := by decide
  reducesTo_S16x128x512_S_d0_1_2 := by decide
  bcast_S_S2x1x256 := by decide
  reducesTo_S2x1x256_S_d0_1_2 := by decide
  bcast_S_S2x1x2x128x128 := by decide
  reducesTo_S2x1x2x128x128_S_d0_1_2_3_4 := by decide
  bcast_S_S128x1 := by decide
  reducesTo_S128x1_S_d0_1 := by decide
  bcast_S_S2x1x512 := by decide
  reducesTo_S2x1x512_S_d0_1_2 := by decide
  bcast_S_S2x1x2x256x128 := by decide
  reducesTo_S2x1x2x256x128_S_d0_1_2_3_4 := by decide

/-- Every entry of an array is finite, as the precondition computes it. -/
def pFin {s : Shape} {axes : List (Fin s.rank)} (hb : S_.BroadcastsInDim s (![] : Fin 0 → Fin s.rank)) (hr :
    s.ReducesTo axes S_)
    (a : FVec Ideal s .f32) : IVec S_ 1 :=
  Host.reduce IntOp.andi (cmpf .olt (Host.absf a) (broadcastInDim s ![] hb (constant S_ .f32 0x7F800000#32)))
    (constantI S_ 1 1#1) hr Facts.h_S_

/-- Every row of both graphs has an edge, as the precondition computes it. -/
def pEdges (a : FVec Ideal S16x2x512x512 .f32) : IVec S_ 1 :=
  Host.reduce IntOp.andi
    (Host.reduce IntOp.ori
      (cmpf .ogt (Host.absf a) (broadcastInDim S16x2x512x512 ![] Facts.bcast_S_S16x2x512x512 (constant S_ .f32
    0x3089705F#32)))
      (constantI S_ 1 0#1) Facts.reducesTo_S16x2x512x512_S16x2x512_d3 Facts.h_S_)
    (constantI S_ 1 1#1) Facts.reducesTo_S16x2x512_S_d0_1_2 Facts.h_S_

/-- The word of the infinity that the precondition compares with. -/
theorem ofBits_top : Ideal.ofBits .f32 0x7F800000#32 = ⊤ := by
  simp [Ideal.ofBits, Ideal.ieee]

/-- A fold by `or` that came to 1 met a 1 or began at one. -/
theorem foldl_ori {ι : Type} (f : ι → BitVec 1) : ∀ (l : List ι) (b : BitVec 1),
    l.foldl (fun r n => IntOp.ori r (f n)) b = 1#1 → b = 1#1 ∨ ∃ n ∈ l, f n = 1#1
  | [], _, h => Or.inl h
  | a :: l, b, h => by
    rcases foldl_ori f l _ h with h | ⟨n, hn, h⟩
    · rcases IntOp.ori_eq_one.1 h with h | h
      · exact Or.inl h
      · exact Or.inr ⟨a, List.mem_cons_self .., h⟩
    · exact Or.inr ⟨n, List.mem_cons_of_mem _ hn, h⟩

/-- A comparison that holds. -/
theorem ofBool_one {p : Prop} [Decidable p] (h : BitVec.ofBool (decide p) = 1#1) : p := by
  by_contra hp
  rw [decide_eq_false hp] at h
  exact absurd h (by decide)

/-- Where the test of an array is one, the entries of the array are finite. -/
theorem pFin_at {s : Shape} {axes : List (Fin s.rank)} (hb : S_.BroadcastsInDim s (![] : Fin 0 → Fin s.rank))
    (hr : s.ReducesTo axes S_) (a : FVec Ideal s .f32) (h : pFin hb hr a ix0 = 1#1) (i : s.Idx) : IsFin (a i) := by
  haveI : Subsingleton S_.Idx := ⟨fun x y => funext fun k => k.elim0⟩
  have e := Host.reduce_andi_all _ _ hr Facts.h_S_ ix0 h i
  have l : max (a i) (-a i) < Ideal.ofBits .f32 0x7F800000#32 := ofBool_one e
  rw [ofBits_top] at l
  refine ⟨fun hb => ?_, fun ht => ?_⟩
  · rw [hb] at l; simp at l
  · rw [ht] at l; simp at l

/-- Where the test of the graphs is one, each row of each graph has an edge. -/
theorem pEdges_at (a : FVec Ideal S16x2x512x512 .f32) (h : pEdges a ix0 = 1#1) (b : Fin 16) (g : Fin 2) (n : Fin 512)
    :
    ∃ j, Edge (a (ix4 b g n j)) := by
  haveI : Subsingleton S_.Idx := ⟨fun x y => funext fun k => k.elim0⟩
  have e := Host.reduce_andi_all _ _ Facts.reducesTo_S16x2x512_S_d0_1_2 Facts.h_S_ ix0 h (ix3 b g n)
  rw [Host.reduce_eq_foldl] at e
  rcases foldl_ori _ _ _ e with e | ⟨i, hi, e⟩
  · exact absurd e (by decide)
  · have hd := (List.mem_filter.1 hi).2
    rw [decide_eq_true_eq] at hd
    obtain ⟨k, rfl⟩ := (Shape.ReducesTo.fiber_r4_a3 Facts.reducesTo_S16x2x512x512_S16x2x512_d3 _ _).1 hd
    have l : Ideal.ofBits .f32 0x3089705F#32 < max (a (ix4 b g n k)) (-a (ix4 b g n k)) := ofBool_one e
    exact ⟨k, l⟩

variable (a0 : FVec Ideal S16x128x512 .f32) (a1 : FVec Ideal S16x2x512x512 .f32) (a2 : FVec Ideal S2x1x256 .f32) (a3
    : FVec Ideal S2x1x2x128x128 .f32) (a4 : FVec Ideal S128x1 .f32) (a5 : FVec Ideal S2x1x512 .f32) (a6 : FVec Ideal
    S2x1x2x256x128 .f32) (a7 : FVec Ideal S128x1 .f32) (a8 : FVec Ideal S2x1x512 .f32) (a9 : FVec Ideal
    S2x1x2x256x128 .f32) (a10 : FVec Ideal S128x1 .f32) (a11 : FVec Ideal S2x1x512 .f32) (a12 : FVec Ideal
    S2x1x2x256x128 .f32) (a13 : FVec Ideal S128x1 .f32) (a14 : FVec Ideal S2x1x256 .f32) (a15 : FVec Ideal
    S2x1x2x128x128 .f32) (a16 : FVec Ideal S128x1 .f32) (a17 : FVec Ideal S2x1x512 .f32) (a18 : FVec Ideal
    S2x1x2x256x128 .f32) (a19 : FVec Ideal S128x1 .f32)

/-- The printed precondition is the conjunction of the tests, argument by argument. -/
theorem pre_eq : Cert.Pre_finite_inputs.fn (F := Ideal) a0 a1 a2 a3 a4 a5 a6 a7 a8 a9 a10 a11 a12 a13 a14 a15 a16 a17
    a18 a19
    = andi (andi (andi (andi (andi (andi (andi (andi (andi (andi (andi (andi (andi (andi (andi (pEdges a1) (pFin
    Facts.bcast_S_S16x128x512 Facts.reducesTo_S16x128x512_S_d0_1_2 a0)) (pFin Facts.bcast_S_S2x1x256
    Facts.reducesTo_S2x1x256_S_d0_1_2 a2)) (pFin Facts.bcast_S_S2x1x2x128x128
    Facts.reducesTo_S2x1x2x128x128_S_d0_1_2_3_4 a3)) (pFin Facts.bcast_S_S128x1 Facts.reducesTo_S128x1_S_d0_1 a4))
    (pFin Facts.bcast_S_S2x1x512 Facts.reducesTo_S2x1x512_S_d0_1_2 a5)) (pFin Facts.bcast_S_S2x1x2x256x128
    Facts.reducesTo_S2x1x2x256x128_S_d0_1_2_3_4 a6)) (pFin Facts.bcast_S_S128x1 Facts.reducesTo_S128x1_S_d0_1 a7))
    (pFin Facts.bcast_S_S2x1x512 Facts.reducesTo_S2x1x512_S_d0_1_2 a8)) (pFin Facts.bcast_S_S2x1x2x256x128
    Facts.reducesTo_S2x1x2x256x128_S_d0_1_2_3_4 a9)) (pFin Facts.bcast_S_S128x1 Facts.reducesTo_S128x1_S_d0_1 a10))
    (pFin Facts.bcast_S_S2x1x512 Facts.reducesTo_S2x1x512_S_d0_1_2 a17)) (pFin Facts.bcast_S_S2x1x2x256x128
    Facts.reducesTo_S2x1x2x256x128_S_d0_1_2_3_4 a18)) (pFin Facts.bcast_S_S128x1 Facts.reducesTo_S128x1_S_d0_1 a19))
    (pFin Facts.bcast_S_S2x1x512 Facts.reducesTo_S2x1x512_S_d0_1_2 a11)) (pFin Facts.bcast_S_S2x1x256
    Facts.reducesTo_S2x1x256_S_d0_1_2 a14) := rfl

/-- What the precondition gives. -/
structure Finite (a0 : FVec Ideal S16x128x512 .f32) (a1 : FVec Ideal S16x2x512x512 .f32) (a2 : FVec Ideal S2x1x256 .f32) (a3
    : FVec Ideal S2x1x2x128x128 .f32) (a4 : FVec Ideal S128x1 .f32) (a5 : FVec Ideal S2x1x512 .f32) (a6 : FVec Ideal
    S2x1x2x256x128 .f32) (a7 : FVec Ideal S128x1 .f32) (a8 : FVec Ideal S2x1x512 .f32) (a9 : FVec Ideal
    S2x1x2x256x128 .f32) (a10 : FVec Ideal S128x1 .f32) (a11 : FVec Ideal S2x1x512 .f32) (a12 : FVec Ideal
    S2x1x2x256x128 .f32) (a13 : FVec Ideal S128x1 .f32) (a14 : FVec Ideal S2x1x256 .f32) (a15 : FVec Ideal
    S2x1x2x128x128 .f32) (a16 : FVec Ideal S128x1 .f32) (a17 : FVec Ideal S2x1x512 .f32) (a18 : FVec Ideal
    S2x1x2x256x128 .f32) (a19 : FVec Ideal S128x1 .f32) : Prop where
  edges : ∀ b g n, ∃ j, Edge (a1 (ix4 b g n j))
  fin0 : ∀ i, IsFin (a0 i)
  fin2 : ∀ i, IsFin (a2 i)
  fin3 : ∀ i, IsFin (a3 i)
  fin4 : ∀ i, IsFin (a4 i)
  fin5 : ∀ i, IsFin (a5 i)
  fin6 : ∀ i, IsFin (a6 i)
  fin7 : ∀ i, IsFin (a7 i)
  fin8 : ∀ i, IsFin (a8 i)
  fin9 : ∀ i, IsFin (a9 i)
  fin10 : ∀ i, IsFin (a10 i)
  fin17 : ∀ i, IsFin (a17 i)
  fin18 : ∀ i, IsFin (a18 i)
  fin19 : ∀ i, IsFin (a19 i)
  fin11 : ∀ i, IsFin (a11 i)
  fin14 : ∀ i, IsFin (a14 i)

/-- The precondition, read: rows with edges and finite entries. -/
theorem finite_of_pre (h : Cert.Pre_finite_inputs.fn (F := Ideal) a0 a1 a2 a3 a4 a5 a6 a7 a8 a9 a10 a11 a12 a13 a14
    a15 a16 a17 a18 a19 ix0 = 1#1) : Finite a0 a1 a2 a3 a4 a5 a6 a7 a8 a9 a10 a11 a12 a13 a14 a15 a16 a17 a18 a19 :=
    by
  rw [pre_eq] at h
  obtain ⟨h, h14⟩ := IntOp.andi_eq_one.1 h
  obtain ⟨h, h11⟩ := IntOp.andi_eq_one.1 h
  obtain ⟨h, h19⟩ := IntOp.andi_eq_one.1 h
  obtain ⟨h, h18⟩ := IntOp.andi_eq_one.1 h
  obtain ⟨h, h17⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h0⟩ := IntOp.andi_eq_one.1 h
  exact ⟨pEdges_at a1 h, pFin_at _ _ _ h0, pFin_at _ _ _ h2, pFin_at _ _ _ h3, pFin_at _ _ _ h4, pFin_at _ _ _ h5,
    pFin_at _ _ _ h6, pFin_at _ _ _ h7, pFin_at _ _ _ h8, pFin_at _ _ _ h9, pFin_at _ _ _ h10, pFin_at _ _ _ h17,
    pFin_at _ _ _ h18, pFin_at _ _ _ h19, pFin_at _ _ _ h11, pFin_at _ _ _ h14⟩

end Cert.GraphAttn
-- ==== Proof.Net.lean ====
/-
  THE NETWORK. The kernel's network of one batch element and the reference's network at that batch element apply the same
    six layers in the same order; so they agree layer by layer, each layer's features being finite because the layers
    before it have finite parameters.
-/
module

public import proofs.«01_k».proof.Proof.Prep
public import proofs.«01_k».proof.Proof.RLayer
public import proofs.«01_k».proof.Proof.PreRead

@[expose] public section

set_option maxRecDepth 16384

noncomputable section

namespace Cert.GraphAttn

open Cert.ReferenceIdeal Idealize.ShloMosaic

open Classical

/-- **The kernel's layer is the reference's.** The kernel's layer of one batch element, its parameters prepared by the host, is
    the reference's layer at that batch element, where the features and the mixer are finite and every node has an edge. -/
theorem layers_agree128 (s : FVec Ideal S16x1x512x512 .f32) (xr : FVec Ideal S16x128x512 .f32) (a : FVec Ideal S2x1x256 .f32)
    (w : FVec Ideal S2x1x2x128x128 .f32) (bb : FVec Ideal S128x1 .f32) (b : Fin 16)
    (x : FVec Ideal KernelIdeal.S512x128 .f32) (mk : FVec Ideal KernelIdeal.S512x512 .bf16)
    (hx : ∀ n c, x (ix2 n c) = xr (ix3 b c n))
    (hmk : ∀ n j, mk (ix2 n j) = if Edge (s (ix4 b 0 n j)) then (1 : EReal) else 0)
    (hX : ∀ c n, IsFin (xr (ix3 b c n))) (hA : ∀ i, IsFin (a i)) (hm : ∀ n, ∃ j, Edge (s (ix4 b 0 n j)))
    (n : Fin 512) (q : Fin 256) :
    kLayer128 x (prepMix128 a) (prepW0128 w) (prepW1128 w) (prepB bb) mk (ix2 n q) = rLayer128 s xr a w bb (ix3 b q n) := by
  rw [rLayer128_at s xr a w bb b (fun n c => hX c n) (fun p c => hA _) hm]
  exact kLayer128_at x _ _ _ _ mk _ _ _ _ _ hx (fun p h c => prepMix128_at a p h c) (fun c q => prepW0128_at w c q)
    (fun p c f => prepW1128_at w p c f) (fun q => prepB_at bb q) hmk (fun n c => hX c n) (fun p h c => hA _) hm n q

/-- With finite parameters too, the layer's values are finite. -/
theorem rLayer128_fin (s : FVec Ideal S16x1x512x512 .f32) (xr : FVec Ideal S16x128x512 .f32) (a : FVec Ideal S2x1x256 .f32)
    (w : FVec Ideal S2x1x2x128x128 .f32) (bb : FVec Ideal S128x1 .f32) (b : Fin 16)
    (hX : ∀ c n, IsFin (xr (ix3 b c n))) (hA : ∀ i, IsFin (a i)) (hW : ∀ i, IsFin (w i)) (hB : ∀ i, IsFin (bb i))
    (hm : ∀ n, ∃ j, Edge (s (ix4 b 0 n j))) (q : Fin 256) (n : Fin 512) : IsFin (rLayer128 s xr a w bb (ix3 b q n)) := by
  rw [rLayer128_at s xr a w bb b (fun n c => hX c n) (fun p c => hA _) hm]
  exact layer_fin _ _ _ _ _ (fun n c => hX c n) (fun t p c f => hW _) (fun f => hB _) n q

/-- **The kernel's layer is the reference's.** The kernel's layer of one batch element, its parameters prepared by the host, is
    the reference's layer at that batch element, where the features and the mixer are finite and every node has an edge. -/
theorem layers_agree256 (s : FVec Ideal S16x1x512x512 .f32) (xr : FVec Ideal S16x256x512 .f32) (a : FVec Ideal S2x1x512 .f32)
    (w : FVec Ideal S2x1x2x256x128 .f32) (bb : FVec Ideal S128x1 .f32) (b : Fin 16)
    (x : FVec Ideal KernelIdeal.S512x256 .f32) (mk : FVec Ideal KernelIdeal.S512x512 .bf16)
    (hx : ∀ n c, x (ix2 n c) = xr (ix3 b c n))
    (hmk : ∀ n j, mk (ix2 n j) = if Edge (s (ix4 b 0 n j)) then (1 : EReal) else 0)
    (hX : ∀ c n, IsFin (xr (ix3 b c n))) (hA : ∀ i, IsFin (a i)) (hm : ∀ n, ∃ j, Edge (s (ix4 b 0 n j)))
    (n : Fin 512) (q : Fin 256) :
    kLayer256 x (prepMix256 a) (prepW0256 w) (prepW1256 w) (prepB bb) mk (ix2 n q) = rLayer256 s xr a w bb (ix3 b q n) := by
  rw [rLayer256_at s xr a w bb b (fun n c => hX c n) (fun p c => hA _) hm]
  exact kLayer256_at x _ _ _ _ mk _ _ _ _ _ hx (fun p h c => prepMix256_at a p h c) (fun c q => prepW0256_at w c q)
    (fun p c f => prepW1256_at w p c f) (fun q => prepB_at bb q) hmk (fun n c => hX c n) (fun p h c => hA _) hm n q

/-- With finite parameters too, the layer's values are finite. -/
theorem rLayer256_fin (s : FVec Ideal S16x1x512x512 .f32) (xr : FVec Ideal S16x256x512 .f32) (a : FVec Ideal S2x1x512 .f32)
    (w : FVec Ideal S2x1x2x256x128 .f32) (bb : FVec Ideal S128x1 .f32) (b : Fin 16)
    (hX : ∀ c n, IsFin (xr (ix3 b c n))) (hA : ∀ i, IsFin (a i)) (hW : ∀ i, IsFin (w i)) (hB : ∀ i, IsFin (bb i))
    (hm : ∀ n, ∃ j, Edge (s (ix4 b 0 n j))) (q : Fin 256) (n : Fin 512) : IsFin (rLayer256 s xr a w bb (ix3 b q n)) := by
  rw [rLayer256_at s xr a w bb b (fun n c => hX c n) (fun p c => hA _) hm]
  exact layer_fin _ _ _ _ _ (fun n c => hX c n) (fun t p c f => hW _) (fun f => hB _) n q

/-- The first adjacency matrix, entry by entry. -/
theorem rS0_at (s : FVec Ideal S16x2x512x512 .f32) (b : Fin 16) (n j : Fin 512) : rS0 s (ix4 b 0 n j) = s (ix4 b 0 n j) := by
  unfold rS0
  pointwise

/-- The second adjacency matrix, entry by entry. -/
theorem rS1_at (s : FVec Ideal S16x2x512x512 .f32) (b : Fin 16) (n j : Fin 512) : rS1 s (ix4 b 0 n j) = s (ix4 b 1 n j) := by
  unfold rS1
  pointwise

/-- **The kernel's network is the reference's**, at each batch element, feature and node, under the precondition. -/
theorem nets_agree (a0 : FVec Ideal S16x128x512 .f32) (a1 : FVec Ideal S16x2x512x512 .f32)
    (a2 : FVec Ideal S2x1x256 .f32) (a3 : FVec Ideal S2x1x2x128x128 .f32) (a4 : FVec Ideal S128x1 .f32)
    (a5 : FVec Ideal S2x1x512 .f32) (a6 : FVec Ideal S2x1x2x256x128 .f32) (a7 : FVec Ideal S128x1 .f32)
    (a8 : FVec Ideal S2x1x512 .f32) (a9 : FVec Ideal S2x1x2x256x128 .f32) (a10 : FVec Ideal S128x1 .f32)
    (a11 : FVec Ideal S2x1x512 .f32) (a12 : FVec Ideal S2x1x2x256x128 .f32) (a13 : FVec Ideal S128x1 .f32)
    (a14 : FVec Ideal S2x1x256 .f32) (a15 : FVec Ideal S2x1x2x128x128 .f32) (a16 : FVec Ideal S128x1 .f32)
    (a17 : FVec Ideal S2x1x512 .f32) (a18 : FVec Ideal S2x1x2x256x128 .f32) (a19 : FVec Ideal S128x1 .f32)
    (H : Finite a0 a1 a2 a3 a4 a5 a6 a7 a8 a9 a10 a11 a12 a13 a14 a15 a16 a17 a18 a19) (b : Fin 16)
    (x : FVec Ideal KernelIdeal.S512x128 .f32) (m0 m1 : FVec Ideal KernelIdeal.S512x512 .bf16)
    (hx : ∀ n c, x (ix2 n c) = a0 (ix3 b c n))
    (h0 : ∀ n j, m0 (ix2 n j) = if Edge (a1 (ix4 b 0 n j)) then (1 : EReal) else 0)
    (h1 : ∀ n j, m1 (ix2 n j) = if Edge (a1 (ix4 b 1 n j)) then (1 : EReal) else 0) (n : Fin 512) (q : Fin 256) :
    kNet x m0 m1
        (prepMix128 a2) (prepW0128 a3) (prepW1128 a3) (prepB a4)
        (prepMix256 a5) (prepW0256 a6) (prepW1256 a6) (prepB a7)
        (prepMix256 a8) (prepW0256 a9) (prepW1256 a9) (prepB a10)
        (prepMix256 a11) (prepW0256 a12) (prepW1256 a12) (prepB a13)
        (prepMix128 a14) (prepW0128 a15) (prepW1128 a15) (prepB a16)
        (prepMix256 a17) (prepW0256 a18) (prepW1256 a18) (prepB a19) (ix2 n q)
      = rNet a0 a1 a2 a3 a4 a5 a6 a7 a8 a9 a10 a11 a12 a13 a14 a15 a16 a17 a18 a19 (ix3 b q n) := by
  have k0 : ∀ n j, m0 (ix2 n j) = if Edge (rS0 a1 (ix4 b 0 n j)) then (1 : EReal) else 0 := fun n j => by rw [rS0_at, h0]
  have k1 : ∀ n j, m1 (ix2 n j) = if Edge (rS1 a1 (ix4 b 0 n j)) then (1 : EReal) else 0 := fun n j => by rw [rS1_at, h1]
  have e0 : ∀ n, ∃ j, Edge (rS0 a1 (ix4 b 0 n j)) := fun n => by simp only [rS0_at]; exact H.edges b 0 n
  have e1 : ∀ n, ∃ j, Edge (rS1 a1 (ix4 b 0 n j)) := fun n => by simp only [rS1_at]; exact H.edges b 1 n
  have f0 : ∀ c n, IsFin (a0 (ix3 b c n)) := fun c n => H.fin0 _
  have p1 := layers_agree128 (rS0 a1) a0 a2 a3 a4 b x m0 hx k0 f0 H.fin2 e0
  have f1 := rLayer128_fin (rS0 a1) a0 a2 a3 a4 b f0 H.fin2 H.fin3 H.fin4 e0
  have p2 := layers_agree256 (rS1 a1) _ a5 a6 a7 b _ m1 p1 k1 f1 H.fin5 e1
  have f2 := rLayer256_fin (rS1 a1) _ a5 a6 a7 b f1 H.fin5 H.fin6 H.fin7 e1
  have pu := layers_agree256 (rS1 a1) _ a8 a9 a10 b _ m1 p2 k1 f2 H.fin8 e1
  have fu := rLayer256_fin (rS1 a1) _ a8 a9 a10 b f2 H.fin8 H.fin9 H.fin10 e1
  have ps := layers_agree256 (rS1 a1) _ a17 a18 a19 b _ m1 p1 k1 f1 H.fin17 e1
  have fs := rLayer256_fin (rS1 a1) _ a17 a18 a19 b f1 H.fin17 H.fin18 H.fin19 e1
  have p4 := layers_agree256 (rS0 a1)
    (addf (rLayer256 (rS1 a1) (rLayer256 (rS1 a1) (rLayer128 (rS0 a1) a0 a2 a3 a4) a5 a6 a7) a8 a9 a10)
      (rLayer256 (rS1 a1) (rLayer128 (rS0 a1) a0 a2 a3 a4) a17 a18 a19)) a11 a12 a13 b
    (addf _ _) m0 (fun n c => congrArg₂ (fun u v : EReal => u + v) (pu n c) (ps n c)) k0 (fun c n => (fu c n).add (fs c n)) H.fin11 e0
  have p5 := layers_agree128 (rS0 a1) a0 a14 a15 a16 b x m0 hx k0 f0 H.fin14 e0
  exact congrArg₂ (fun u v : EReal => u + v) (p4 n q) (p5 n q)

end Cert.GraphAttn
-- ==== Proof.Blocks.lean ====
/-
  THE KERNEL'S RUN. Grid point `t` works on batch elements `2t` and `2t + 1`: what it writes back is the reference's network at
    those two batch elements. The eight points' blocks fill the result array.
-/
module

public import proofs.«01_k».proof.Proof.Gen.KernelIdeal.Value
public import proofs.«01_k».proof.Proof.Net
public import Idealize.ShloMosaic.Lib.Pipeline.ValueKit

@[expose] public section

set_option maxRecDepth 16384

noncomputable section

namespace Cert.GraphAttn

open Cert.KernelIdeal Cert.KernelIdeal.Gen Cert.KernelIdeal.Value Idealize.ShloMosaic Idealize.ShloMosaic.TcCoe Idealize.SL.Sem

open Classical

/-! ### One batch element of a block -/

/-- The kernel's features of one batch element are its slice, nodes first. -/
theorem kFeat_at (x : FVec Ideal S1x128x512 .f32) (n : Fin 512) (c : Fin 128) : kFeat x (ix2 n c) = x (ix3 0 c n) := by
  unfold kFeat
  pointwise

/-- The stored network is the network, features first. -/
theorem kStored_at (y : FVec Ideal S512x256 .f32) (q : Fin 256) (n : Fin 512) : kStored y (ix3 0 q n) = y (ix2 n q) := by
  unfold kStored
  pointwise

/-- Two zeros are the zero offset. -/
theorem zero2 : (![0, 0] : Fin 2 → Nat) = fun _ => 0 := by funext a; fin_cases a <;> rfl

/-- Three zeros are the zero offset. -/
theorem zero3 : (![0, 0, 0] : Fin 3 → Nat) = fun _ => 0 := by funext a; fin_cases a <;> rfl

/-- A load of the whole of a prepared array reads the array. -/
theorem load6 (x : Vec Ideal S128x4 .bf16) : View.ld x r0_6 = x := View.ld_unit_zero zero2 _ x
/-- The whole block is read. -/
theorem load7 (x : Vec Ideal S128x256 .bf16) : View.ld x r0_7 = x := View.ld_unit_zero zero2 _ x
/-- The whole block is read. -/
theorem load8 (x : Vec Ideal S2x128x128 .bf16) : View.ld x r0_8 = x := View.ld_unit_zero zero3 _ x
/-- The whole block is read. -/
theorem load9 (x : Vec Ideal S1x256 .f32) : View.ld x r0_9 = x := View.ld_unit_zero zero2 _ x
/-- The whole block is read. -/
theorem load10 (x : Vec Ideal S256x4 .bf16) : View.ld x r0_10 = x := View.ld_unit_zero zero2 _ x
/-- The whole block is read. -/
theorem load11 (x : Vec Ideal S256x256 .bf16) : View.ld x r0_11 = x := View.ld_unit_zero zero2 _ x
/-- The whole block is read. -/
theorem load12 (x : Vec Ideal S2x256x128 .bf16) : View.ld x r0_12 = x := View.ld_unit_zero zero3 _ x

/-- What the body writes of a block's batch element `i`, when the block's features and adjacency matrices there are those of batch
    element `b` and the parameters are the prepared ones: the reference's network at `b`. -/
theorem body_at (a0 : FVec Ideal S16x128x512 .f32) (a1 : FVec Ideal S16x2x512x512 .f32) (a2 : FVec Ideal S2x1x256 .f32) (a3 : FVec Ideal S2x1x2x128x128 .f32)
    (a4 : FVec Ideal S128x1 .f32) (a5 : FVec Ideal S2x1x512 .f32) (a6 : FVec Ideal S2x1x2x256x128 .f32) (a7 : FVec Ideal S128x1 .f32)
    (a8 : FVec Ideal S2x1x512 .f32) (a9 : FVec Ideal S2x1x2x256x128 .f32) (a10 : FVec Ideal S128x1 .f32) (a11 : FVec Ideal S2x1x512 .f32)
    (a12 : FVec Ideal S2x1x2x256x128 .f32) (a13 : FVec Ideal S128x1 .f32) (a14 : FVec Ideal S2x1x256 .f32) (a15 : FVec Ideal S2x1x2x128x128 .f32)
    (a16 : FVec Ideal S128x1 .f32) (a17 : FVec Ideal S2x1x512 .f32) (a18 : FVec Ideal S2x1x2x256x128 .f32) (a19 : FVec Ideal S128x1 .f32)
    (H : Finite a0 a1 a2 a3 a4 a5 a6 a7 a8 a9 a10 a11 a12 a13 a14 a15 a16 a17 a18 a19) (x0 : FVec Ideal S2x128x512 .f32) (x1 : FVec Ideal S2x2x512x512 .f32) (b : Fin 16) (i : Fin 2)
    (hx : ∀ c n, x0 (ix3 i c n) = a0 (ix3 b c n)) (hs : ∀ k n j, x1 (ix4 i k n j) = a1 (ix4 b k n j)) (q : Fin 256) (n : Fin 512) :
    out0_26 (F := Ideal) x0 x1
      (prepMix128 a2) (prepW0128 a3) (prepW1128 a3) (prepB a4)
      (prepMix256 a5) (prepW0256 a6) (prepW1256 a6) (prepB a7)
      (prepMix256 a8) (prepW0256 a9) (prepW1256 a9) (prepB a10)
      (prepMix256 a11) (prepW0256 a12) (prepW1256 a12) (prepB a13)
      (prepMix128 a14) (prepW0128 a15) (prepW1128 a15) (prepB a16)
      (prepMix256 a17) (prepW0256 a18) (prepW1256 a18) (prepB a19) (ix3 i q n)
      = (rNet a0 a1 a2 a3 a4 a5 a6 a7 a8 a9 a10 a11 a12 a13 a14 a15 a16 a17 a18 a19 (ix3 b q n) : EReal) := by
  rw [out_eq]
  have e0 : r0_13.emb (ix3 (0 : Fin 1) q n) = ix3 (0 : Fin 2) q n := by
    funext a; apply Fin.ext; fin_cases a <;> simp [Rect.emb_apply]
  have e1 : r0_14.emb (ix3 (0 : Fin 1) q n) = ix3 (1 : Fin 2) q n := by
    funext a; apply Fin.ext; fin_cases a <;> simp [Rect.emb_apply]
  rcases (by omega : i = 0 ∨ i = 1) with rfl | rfl
  · rw [View.canon_cons_of_not_mem _ _ (by
        rw [Rect.mem_set_unit]; intro h; exact absurd (h 0).1 (by show ¬ (1 ≤ 0); decide)), ← e0, View.canon_cons_emb, kStored_at]
    simp only [load6, load7, load8, load9, load10, load11, load12]
    refine nets_agree a0 a1 a2 a3 a4 a5 a6 a7 a8 a9 a10 a11 a12 a13 a14 a15 a16 a17 a18 a19 H b _ _ _ (fun n c => ?_) (fun n j => ?_) (fun n j => ?_) n q
    · rw [kFeat_at, ← hx]; exact View.ld_unit_apply_of _ _ _ _ _ _ fun a => by fin_cases a <;> simp
    · rw [kMask_at, ← hs]; exact congrArg (fun z => if Edge z then (1 : EReal) else 0)
        (View.ld_unit_apply_of _ _ _ _ _ _ fun a => by fin_cases a <;> simp)
    · rw [kMask_at, ← hs]; exact congrArg (fun z => if Edge z then (1 : EReal) else 0)
        (View.ld_unit_apply_of _ _ _ _ _ _ fun a => by fin_cases a <;> simp)
  · rw [← e1, View.canon_cons_emb, kStored_at]
    simp only [load6, load7, load8, load9, load10, load11, load12]
    refine nets_agree a0 a1 a2 a3 a4 a5 a6 a7 a8 a9 a10 a11 a12 a13 a14 a15 a16 a17 a18 a19 H b _ _ _ (fun n c => ?_) (fun n j => ?_) (fun n j => ?_) n q
    · rw [kFeat_at, ← hx]; exact View.ld_unit_apply_of _ _ _ _ _ _ fun a => by fin_cases a <;> simp
    · rw [kMask_at, ← hs]; exact congrArg (fun z => if Edge z then (1 : EReal) else 0)
        (View.ld_unit_apply_of _ _ _ _ _ _ fun a => by fin_cases a <;> simp)
    · rw [kMask_at, ← hs]; exact congrArg (fun z => if Edge z then (1 : EReal) else 0)
        (View.ld_unit_apply_of _ _ _ _ _ _ fun a => by fin_cases a <;> simp)

/-! ### A point's blocks -/

/-- A coordinate of the first block is the coordinate itself. -/
theorem zero_offset (k d x : Nat) (h : k = 0) : k * d + x = x := by rw [h]; omega

variable (m : (ℓ : Loc nD τ sig) → Buf (Elt Ideal) ℓ) (c : Dev nD) (t : Fin cfg0.N)

set_option maxHeartbeats 2000000 in
/-- Each of layer down0's four windows has one block, its whole array. -/
theorem whole_down0 :
    (iblk m c 2 t : FVec Ideal S128x4 .bf16) = V m c main_call0_v6
    ∧ (iblk m c 3 t : FVec Ideal S128x256 .bf16) = V m c main_call0_v14
    ∧ (iblk m c 4 t : FVec Ideal S2x128x128 .bf16) = V m c main_call0_v17
    ∧ (iblk m c 5 t : FVec Ideal S1x256 .f32) = V m c main_call0_v20 := by
  refine ⟨?_, ?_, ?_, ?_⟩ <;> (funext j; blk_ext [iblk] <;> first | exact zero_offset _ _ _ rfl | rfl)

set_option maxHeartbeats 2000000 in
/-- Each of layer down1's four windows has one block, its whole array. -/
theorem whole_down1 :
    (iblk m c 6 t : FVec Ideal S256x4 .bf16) = V m c main_call0_v27
    ∧ (iblk m c 7 t : FVec Ideal S256x256 .bf16) = V m c main_call0_v35
    ∧ (iblk m c 8 t : FVec Ideal S2x256x128 .bf16) = V m c main_call0_v38
    ∧ (iblk m c 9 t : FVec Ideal S1x256 .f32) = V m c main_call0_v41 := by
  refine ⟨?_, ?_, ?_, ?_⟩ <;> (funext j; blk_ext [iblk] <;> first | exact zero_offset _ _ _ rfl | rfl)

set_option maxHeartbeats 2000000 in
/-- Each of layer up0's four windows has one block, its whole array. -/
theorem whole_up0 :
    (iblk m c 10 t : FVec Ideal S256x4 .bf16) = V m c main_call0_v48
    ∧ (iblk m c 11 t : FVec Ideal S256x256 .bf16) = V m c main_call0_v56
    ∧ (iblk m c 12 t : FVec Ideal S2x256x128 .bf16) = V m c main_call0_v59
    ∧ (iblk m c 13 t : FVec Ideal S1x256 .f32) = V m c main_call0_v62 := by
  refine ⟨?_, ?_, ?_, ?_⟩ <;> (funext j; blk_ext [iblk] <;> first | exact zero_offset _ _ _ rfl | rfl)

set_option maxHeartbeats 2000000 in
/-- Each of layer up1's four windows has one block, its whole array. -/
theorem whole_up1 :
    (iblk m c 14 t : FVec Ideal S256x4 .bf16) = V m c main_call0_v69
    ∧ (iblk m c 15 t : FVec Ideal S256x256 .bf16) = V m c main_call0_v77
    ∧ (iblk m c 16 t : FVec Ideal S2x256x128 .bf16) = V m c main_call0_v80
    ∧ (iblk m c 17 t : FVec Ideal S1x256 .f32) = V m c main_call0_v83 := by
  refine ⟨?_, ?_, ?_, ?_⟩ <;> (funext j; blk_ext [iblk] <;> first | exact zero_offset _ _ _ rfl | rfl)

set_option maxHeartbeats 2000000 in
/-- Each of layer sc0's four windows has one block, its whole array. -/
theorem whole_sc0 :
    (iblk m c 18 t : FVec Ideal S128x4 .bf16) = V m c main_call0_v90
    ∧ (iblk m c 19 t : FVec Ideal S128x256 .bf16) = V m c main_call0_v98
    ∧ (iblk m c 20 t : FVec Ideal S2x128x128 .bf16) = V m c main_call0_v101
    ∧ (iblk m c 21 t : FVec Ideal S1x256 .f32) = V m c main_call0_v104 := by
  refine ⟨?_, ?_, ?_, ?_⟩ <;> (funext j; blk_ext [iblk] <;> first | exact zero_offset _ _ _ rfl | rfl)

set_option maxHeartbeats 2000000 in
/-- Each of layer sc1's four windows has one block, its whole array. -/
theorem whole_sc1 :
    (iblk m c 22 t : FVec Ideal S256x4 .bf16) = V m c main_call0_v111
    ∧ (iblk m c 23 t : FVec Ideal S256x256 .bf16) = V m c main_call0_v119
    ∧ (iblk m c 24 t : FVec Ideal S2x256x128 .bf16) = V m c main_call0_v122
    ∧ (iblk m c 25 t : FVec Ideal S1x256 .f32) = V m c main_call0_v125 := by
  refine ⟨?_, ?_, ?_, ?_⟩ <;> (funext j; blk_ext [iblk] <;> first | exact zero_offset _ _ _ rfl | rfl)

/-- The batch element that grid point `t` works on in place `i` of its block. -/
def batchOf (t : Fin cfg0.N) (i : Fin 2) : Fin 16 := ⟨2 * t.val + i.val, by have := t.isLt; have : cfg0.N = 8 := rfl; omega⟩

/-- Point `t`'s block of features starts at batch element `2t`, the other axes at zero. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

/-- So does its block of adjacency matrices, -/
theorem index1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- and its block of results. -/
theorem index26 : ∀ t : Fin cfg0.N, win0_26.index t (0 : Fin 3) = t.val ∧ win0_26.index t (1 : Fin 3) = 0 ∧ win0_26.index t (2 : Fin 3) = 0 :=
  (by decide +kernel : ∀ t : Fin grid0.N, _)

/-- The features in place `i` of point `t`'s block are those of its batch element. -/
theorem block_features (i : Fin 2) (k : Fin 128) (n : Fin 512) :
    (iblk m c 0 t : FVec Ideal S2x128x512 .f32) (ix3 i k n)
      = (m ((c : Thread nD τ).loc main_arg0) : FVec Ideal S16x128x512 .f32) (ix3 (batchOf t i) k n) := by
  obtain ⟨e0, e1, e2⟩ := index0 t
  rw [← V_main_arg0 m c]
  blk_ext [iblk, e0, e1, e2, batchOf]

/-- The adjacency matrices in place `i` of point `t`'s block are those of its batch element. -/
theorem block_matrices (i : Fin 2) (k : Fin 2) (n j : Fin 512) :
    (iblk m c 1 t : FVec Ideal S2x2x512x512 .f32) (ix4 i k n j)
      = (m ((c : Thread nD τ).loc main_arg1) : FVec Ideal S16x2x512x512 .f32) (ix4 (batchOf t i) k n j) := by
  obtain ⟨e0, e1, e2, e3⟩ := index1 t
  rw [← V_main_arg1 m c]
  blk_ext [iblk, e0, e1, e2, e3, batchOf]

/-- Place `i` of point `t`'s block of results is its batch element's place in the result array. -/
theorem block_results (i : Fin 2) (q : Fin 256) (n : Fin 512) :
    ((win0_26.blk t).view.emb (ix3 i q n) : S16x256x512.Idx) = ix3 (batchOf t i) q n := by
  obtain ⟨e0, e1, e2⟩ := index26 t
  blk_ext [e0, e1, e2, batchOf]

/-- **The kernel's run.** The result array after the last point is the reference's network of the argument arrays, where the
    precondition holds of them. -/
theorem result_eq
    (H : Finite (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19))) :
    (dats m 0 c).arrAt 26 cfg0.N = rNet (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) := by
  refine (dats m 0 c).arrAt_eq_of_covers 26 _ (by decide +kernel) fun t hf y => ?_
  blk_simp
  rw [after0_26]
  obtain ⟨i, q, n, rfl⟩ : ∃ (i : Fin 2) (q : Fin 256) (n : Fin 512), y = ix3 i q n := ⟨y 0, y 1, y 2, by blk_ext⟩
  obtain ⟨h0, h1, h2, h3⟩ := whole_down0 m c t
  obtain ⟨p0, p1, p2, p3⟩ := prepared_down0 m c
  obtain ⟨h4, h5, h6, h7⟩ := whole_down1 m c t
  obtain ⟨p4, p5, p6, p7⟩ := prepared_down1 m c
  obtain ⟨h8, h9, h10, h11⟩ := whole_up0 m c t
  obtain ⟨p8, p9, p10, p11⟩ := prepared_up0 m c
  obtain ⟨h12, h13, h14, h15⟩ := whole_up1 m c t
  obtain ⟨p12, p13, p14, p15⟩ := prepared_up1 m c
  obtain ⟨h16, h17, h18, h19⟩ := whole_sc0 m c t
  obtain ⟨p16, p17, p18, p19⟩ := prepared_sc0 m c
  obtain ⟨h20, h21, h22, h23⟩ := whole_sc1 m c t
  obtain ⟨p20, p21, p22, p23⟩ := prepared_sc1 m c
  rw [h0, p0, h1, p1, h2, p2, h3, p3,
    h4, p4, h5, p5, h6, p6, h7, p7,
    h8, p8, h9, p9, h10, p10, h11, p11,
    h12, p12, h13, p13, h14, p14, h15, p15,
    h16, p16, h17, p17, h18, p18, h19, p19,
    h20, p20, h21, p21, h22, p22, h23, p23]
  rw [block_results]
  exact body_at _ _ _ _ _ _ _ _ _ _ _ _ _ _ _ _ _ _ _ _ H _ _ (batchOf t i) i (fun k n => block_features m c t i k n)
    (fun k n j => block_matrices m c t i k n j) q n

end Cert.GraphAttn

end
-- ==== Proof.RefRun.lean ====
/-
  THE REFERENCE'S RUN. The array the reference leaves is the network of Proof/RLayer.lean applied to its argument arrays: the
    run names the intermediate arrays, and each named array is a layer of the ones before it.
-/
module

public import proofs.«01_k».proof.Proof.Gen.ReferenceIdeal.Run
public import proofs.«01_k».proof.Proof.RLayer

@[expose] public section

set_option maxRecDepth 16384

noncomputable section

namespace Cert.GraphAttn

open Cert.ReferenceIdeal Cert.ReferenceIdeal.Gen Cert.ReferenceIdeal.Value Idealize.ShloMosaic Idealize.ShloMosaic.TcCoe
  Idealize.SL.Sem Idealize.ShloMosaic.StableHlo

/-- The first layer's result, in the reference's run from contents `v`. -/
theorem run_down0 (v : Valuation τ sig (Elt Ideal)) :
    res_main_v56 v = rLayer128 (rS0 (v (Proc.devRef .tc main_arg1))) (v (Proc.devRef .tc main_arg0)) (v (Proc.devRef .tc main_arg2))
      (v (Proc.devRef .tc main_arg3)) (v (Proc.devRef .tc main_arg4)) := rfl

/-- The second layer's result. -/
theorem run_down1 (v : Valuation τ sig (Elt Ideal)) :
    res_main_v111 v = rLayer256 (rS1 (v (Proc.devRef .tc main_arg1))) (res_main_v56 v) (v (Proc.devRef .tc main_arg5))
      (v (Proc.devRef .tc main_arg6)) (v (Proc.devRef .tc main_arg7)) := rfl

/-- The third layer's result plus the fifth's. -/
theorem run_up0 (v : Valuation τ sig (Elt Ideal)) :
    res_main_v222 v = addf
      (rLayer256 (rS1 (v (Proc.devRef .tc main_arg1))) (res_main_v111 v) (v (Proc.devRef .tc main_arg8))
        (v (Proc.devRef .tc main_arg9)) (v (Proc.devRef .tc main_arg10)))
      (rLayer256 (rS1 (v (Proc.devRef .tc main_arg1))) (res_main_v56 v) (v (Proc.devRef .tc main_arg17))
        (v (Proc.devRef .tc main_arg18)) (v (Proc.devRef .tc main_arg19))) := rfl

/-- The network, with the sums of the first five layers at the names the run gives them. -/
theorem rNet_eq (v : Valuation τ sig (Elt Ideal)) :
    addf
      (rLayer256 (rS0 (v (Proc.devRef .tc main_arg1))) (res_main_v222 v) (v (Proc.devRef .tc main_arg11))
        (v (Proc.devRef .tc main_arg12)) (v (Proc.devRef .tc main_arg13)))
      (rLayer128 (rS0 (v (Proc.devRef .tc main_arg1))) (v (Proc.devRef .tc main_arg0)) (v (Proc.devRef .tc main_arg14))
        (v (Proc.devRef .tc main_arg15)) (v (Proc.devRef .tc main_arg16)))
      = rNet (v (Proc.devRef .tc main_arg0)) (v (Proc.devRef .tc main_arg1)) (v (Proc.devRef .tc main_arg2)) (v (Proc.devRef .tc main_arg3))
        (v (Proc.devRef .tc main_arg4)) (v (Proc.devRef .tc main_arg5)) (v (Proc.devRef .tc main_arg6)) (v (Proc.devRef .tc main_arg7))
        (v (Proc.devRef .tc main_arg8)) (v (Proc.devRef .tc main_arg9)) (v (Proc.devRef .tc main_arg10)) (v (Proc.devRef .tc main_arg11))
        (v (Proc.devRef .tc main_arg12)) (v (Proc.devRef .tc main_arg13)) (v (Proc.devRef .tc main_arg14)) (v (Proc.devRef .tc main_arg15))
        (v (Proc.devRef .tc main_arg16)) (v (Proc.devRef .tc main_arg17)) (v (Proc.devRef .tc main_arg18)) (v (Proc.devRef .tc main_arg19)) := by
  rw [run_up0, run_down1, run_down0]
  rfl

end Cert.GraphAttn

end
-- ==== Proof.lean ====
/-
  THE PROOF OF `Cert.Claim`: the frames of the three programs, the named constants, and the equality of the kernel's result with
    the reference's over the extended reals. The value proof is in the modules imported here: Proof/Blocks.lean has the
    kernel's result as the reference's network, Proof/RefRun.lean the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Blocks
public import proofs.«01_k».proof.Proof.RefRun
public import Idealize.ShloMosaic.Adequacy
public import Idealize.ShloMosaic.Init

@[expose] public section

set_option maxRecDepth 16384

noncomputable section

namespace Cert.Proof

open Idealize.ShloMosaic Idealize.SL.Sem Cert.GraphAttn

/-- The reference runs, its arguments end unchanged and no semaphore is left raised: it has none. -/
theorem frame_reference : quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- The kernel's two named constants are the values it computes with, rounded. -/
theorem preserves : preserves_Kernel_KernelIdeal :=
  ⟨IdealRules.named_const.statement Cert.KernelIdeal.κ "log2e" .f32 0x3FB8AA3B#32 _ rfl,
   IdealRules.named_const.statement Cert.KernelIdeal.κ "slope_log2e" .f32 0x3E93BB63#32 _ rfl⟩

/-- **The kernel computes the reference.** Over the extended reals, from equal arguments that meet the precondition, the kernel
    and the reference leave the same array: the network of the arguments. -/
theorem algebraic : algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hpre hm
  refine ⟨fun c => rNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19)), ?_, ?_⟩
  · refine (θ_run _ _ _).mono (fun r h c => ⟨(h c).1.trans ?_, (h c).2⟩) (Cert.KernelIdeal.Value.run_blocks (F := Ideal) m g)
    exact result_eq m c (finite_of_pre _ _ _ _ _ _ _ _ _ _ _ _ _ _ _ _ _ _ _ _ (congrFun (hpre c) ix0))
  · refine (θ_run _ _ _).mono (fun r h c => ⟨(h c).1.trans ((rNet_eq (StableHlo.launchContents m' c)).trans ?_), (h c).2⟩)
      (Cert.ReferenceIdeal.Value.run (F := Ideal) m' g')
    obtain ⟨e0, e1, e2, e3, e4, e5, e6, e7, e8, e9, e10, e11, e12, e13, e14, e15, e16, e17, e18, e19⟩ := hm c
    show rNet
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19)) = _
    rw [e0, e1, e2, e3, e4, e5, e6, e7, e8, e9, e10, e11, e12, e13, e14, e15, e16, e17, e18, e19]

/-- All the claims of this certificate together. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, frame_reference, fun m g _ => frame_reference m g trivial, preserves, algebraic⟩

end Cert.Proof

end
